-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![8192, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 1]⟩ ⟨2, ![8192, 1]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![8192, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2048x512 : Shape := ⟨2, ![2048, 512]⟩
abbrev S512x16 : Shape := ⟨2, ![512, 16]⟩
abbrev S2048x1 : Shape := ⟨2, ![2048, 1]⟩
abbrev S4x512x1024 : Shape := ⟨3, ![4, 512, 1024]⟩
abbrev S512x1024 : Shape := ⟨2, ![512, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_

variable [Facts]

def fn {F : FTy → Type} [FloatOps F] (main_arg0 : FVec F S2048x512 .f32) (main_arg1 : FVec F S512x16 .f32) (main_arg2 : IVec S2048x1 32) (main_arg3 : FVec F S4x512x1024 .f32) (main_arg4 : FVec F S512x1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  main_v8
-- ==== Pre_finite_ReferenceIdeal.lean ====
abbrev S8192x512 : Shape := ⟨2, ![8192, 512]⟩
abbrev S512x16 : Shape := ⟨2, ![512, 16]⟩
abbrev S8192x1 : Shape := ⟨2, ![8192, 1]⟩
abbrev S16x512x1024 : Shape := ⟨3, ![16, 512, 1024]⟩
abbrev S512x1024 : Shape := ⟨2, ![512, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_

variable [Facts]

def fn {F : FTy → Type} [FloatOps F] (main_arg0 : FVec F S8192x512 .f32) (main_arg1 : FVec F S512x16 .f32) (main_arg2 : IVec S8192x1 32) (main_arg3 : FVec F S16x512x1024 .f32) (main_arg4 : FVec F S512x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  main_v8
-- ==== Kernel.lean ====
abbrev S2048x512 : Shape := ⟨2, ![2048, 512]⟩
abbrev S512x16 : Shape := ⟨2, ![512, 16]⟩
abbrev S2048x1 : Shape := ⟨2, ![2048, 1]⟩
abbrev S4x512x1024 : Shape := ⟨3, ![4, 512, 1024]⟩
abbrev S512x1024 : Shape := ⟨2, ![512, 1024]⟩
abbrev S2048x1024 : Shape := ⟨2, ![2048, 1024]⟩
abbrev S2x512x1024 : Shape := ⟨3, ![2, 512, 1024]⟩
abbrev S6 : Shape := ⟨1, ![6]⟩
abbrev S_ : Shape := ⟨0, ![]⟩
abbrev S1 : Shape := ⟨1, ![1]⟩
abbrev S2048x16 : Shape := ⟨2, ![2048, 16]⟩
abbrev S2048 : Shape := ⟨1, ![2048]⟩
abbrev S2048x2048 : Shape := ⟨2, ![2048, 2048]⟩
abbrev S2048x2560 : Shape := ⟨2, ![2048, 2560]⟩
abbrev S2560x1024 : Shape := ⟨2, ![2560, 1024]⟩
abbrev S1024x1024 : Shape := ⟨2, ![1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S2048x512, .f32⟩
  | .hbm, ⟨1, _⟩ => ⟨S512x16, .f32⟩
  | .hbm, ⟨2, _⟩ => ⟨S2048x1, .i32⟩
  | .hbm, ⟨3, _⟩ => ⟨S4x512x1024, .f32⟩
  | .hbm, ⟨4, _⟩ => ⟨S512x1024, .f32⟩
  | .hbm, ⟨5, _⟩ => ⟨S2048x1024, .f32⟩
  | .local _ .vmem, ⟨0, _⟩ => ⟨S2048x512, .f32⟩
  | .local _ .vmem, ⟨1, _⟩ => ⟨S512x16, .f32⟩
  | .local _ .vmem, ⟨2, _⟩ => ⟨S2048x1, .i32⟩
  | .local _ .vmem, ⟨3, _⟩ => ⟨S4x512x1024, .f32⟩
  | .local _ .vmem, ⟨4, _⟩ => ⟨S512x1024, .f32⟩
  | .local _ .vmem, ⟨5, _⟩ => ⟨S2048x1024, .f32⟩
  | .local _ .vmem, ⟨6, _⟩ => ⟨S4x512x1024, .bf16⟩
  | .local _ .vmem, ⟨7, _⟩ => ⟨S4x512x1024, .bf16⟩
  | .local _ .vmem, ⟨8, _⟩ => ⟨S4x512x1024, .bf16⟩
  | .local _ .vmem, ⟨9, _⟩ => ⟨S2x512x1024, .bf16⟩
  | .local _ .vmem, ⟨10, _⟩ => ⟨S2x512x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_dev3 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_19 : BitVec 32 := 1#32
  let v21 : BitVec 32 := Scalar.muli v7 c1_i32_19
  let v22 : BitVec 32 := Scalar.addi c0_i32_20 v21
  v22.toNat
def k0_dev4 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_29 : BitVec 32 := 1#32
  let v29 : BitVec 32 := Scalar.muli v5 c1_i32_29
  let v30 : BitVec 32 := Scalar.addi c0_i32_30 v29
  v30.toNat
def k0_dev5 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_44 : BitVec 32 := 1#32
  let v43 : BitVec 32 := Scalar.muli v7 c1_i32_44
  let v44 : BitVec 32 := Scalar.addi c0_i32_45 v43
  v44.toNat
def k0_dev6 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_53 : BitVec 32 := 1#32
  let v51 : BitVec 32 := Scalar.muli v5 c1_i32_53
  let v52 : BitVec 32 := Scalar.addi c0_i32_54 v51
  v52.toNat
def k0_dev7 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_115 : BitVec 32 := 1#32
  let v160 : BitVec 32 := Scalar.muli v7 c1_i32_115
  let v161 : BitVec 32 := Scalar.addi c0_i32_116 v160
  v161.toNat
def k0_dev8 (d0 : Dev nD) : Nat :=
  let c0_i32_200 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_199 : BitVec 32 := 1#32
  let v269 : BitVec 32 := Scalar.muli v5 c1_i32_199
  let v270 : BitVec 32 := Scalar.addi c0_i32_200 v269
  v270.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8192x512 : Shape := ⟨2, ![8192, 512]⟩
abbrev S512x16 : Shape := ⟨2, ![512, 16]⟩
abbrev S8192x1 : Shape := ⟨2, ![8192, 1]⟩
abbrev S16x512x1024 : Shape := ⟨3, ![16, 512, 1024]⟩
abbrev S512x1024 : Shape := ⟨2, ![512, 1024]⟩
abbrev S8192x16 : Shape := ⟨2, ![8192, 16]⟩
abbrev S_ : Shape := ⟨0, ![]⟩
abbrev S8192 : Shape := ⟨1, ![8192]⟩
abbrev S8192x1024 : Shape := ⟨2, ![8192, 1024]⟩
abbrev S8192x1x1 : Shape := ⟨3, ![8192, 1, 1]⟩
abbrev S8192x512x1024 : Shape := ⟨3, ![8192, 512, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x16, .f32⟩
  | .hbm, ⟨2, _⟩ => ⟨S8192x1, .i32⟩
  | .hbm, ⟨3, _⟩ => ⟨S16x512x1024, .f32⟩
  | .hbm, ⟨4, _⟩ => ⟨S512x1024, .f32⟩
  | .hbm, ⟨5, _⟩ => ⟨S8192x16, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S8192x16, .f32⟩
  | .hbm, ⟨10, _⟩ => ⟨S8192x16, .f32⟩
  | .hbm, ⟨11, _⟩ => ⟨S8192x16, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x16, .f32⟩
  | .hbm, ⟨16, _⟩ => ⟨S8192x16, .f32⟩
  | .hbm, ⟨17, _⟩ => ⟨S8192x1024, .f32⟩
  | .hbm, ⟨18, _⟩ => ⟨S_, .i32⟩
  | .hbm, ⟨19, _⟩ => ⟨S8192x1, .i32⟩
  | .hbm, ⟨20, _⟩ => ⟨S8192x1, .i1⟩
  | .hbm, ⟨21, _⟩ => ⟨S_, .i32⟩
  | .hbm, ⟨22, _⟩ => ⟨S8192x1, .i32⟩
  | .hbm, ⟨23, _⟩ => ⟨S8192x1, .i32⟩
  | .hbm, ⟨24, _⟩ => ⟨S8192x1, .i32⟩
  | .hbm, ⟨25, _⟩ => ⟨S8192x1x1, .i32⟩
  | .hbm, ⟨26, _⟩ => ⟨S8192x1, .f32⟩
  | .hbm, ⟨27, _⟩ => ⟨S_, .i32⟩
  | .hbm, ⟨28, _⟩ => ⟨S8192x1, .i32⟩
  | .hbm, ⟨29, _⟩ => ⟨S8192x1, .i1⟩
  | .hbm, ⟨30, _⟩ => ⟨S_, .i32⟩
  | .hbm, ⟨31, _⟩ => ⟨S8192x1, .i32⟩
  | .hbm, ⟨32, _⟩ => ⟨S8192x1, .i1⟩
  | .hbm, ⟨33, _⟩ => ⟨S8192x1, .i1⟩
  | .hbm, ⟨34, _⟩ => ⟨S_, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192, .i32⟩
  | .hbm, ⟨39, _⟩ => ⟨S8192x1, .i32⟩
  | .hbm, ⟨40, _⟩ => ⟨S8192x512x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_v17 : Ref sig .tc := ⟨.hbm, 37, rfl⟩
abbrev main_v18 : Ref sig .tc := ⟨.hbm, 38, rfl⟩
abbrev main_call2_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Proof.Ring.lean ====
/-
The protocol of the kernel, as a schedule of the rounds library.

Four devices stand on a ring. Each keeps a copy of its own four experts' weights, rounded to bf16, in a send
buffer of two halves, and makes six transfers:

  0  own lower half, to the device after it            (its `recv_l`, lower half)
  1  own upper half, to the device after it            (its `recv_l`, upper half)
  2  own lower half, to the device before it           (its `recv_r`, lower half)
  3  own upper half, to the device before it           (its `recv_r`, upper half)
  4  the lower half it got from the device before it, on to the device after it     (its `recv_dl`)
  5  the upper half it got from the device after it, on to the device before it     (its `recv_dr`)

Before the first transfer every device tells both neighbours that its landing buffers are free, through the
barrier semaphore: what it hands over with that signal is the landing buffers themselves.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pipeline.Value
public import Idealize.ShloMosaic.Lib.MemrefSat
public import Idealize.ShloMosaic.Lib.Tactic

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ring's ghost state: rounds over the semaphores, a duty named by a Boolean. -/
abbrev UB : Type := URounds (GSem nD τ sig) Bool
/-- The pipeline's ghost state beside the ring's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The ring of devices -/

set_option backward.proofsInPublic true in
/-- The device after `c` on the ring. -/
def nxt (c : Dev nD) : Dev nD := ⟨(c.val + 1) % 4, Nat.mod_lt _ (by decide)⟩
set_option backward.proofsInPublic true in
/-- The device before `c` on the ring. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- The devices the two barrier signals and the six transfers name. -/
theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = prv c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = prv c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = prv c := Fin.ext (k0_dev8_eq c)

/-- One step on around the ring, as a bijection. -/
def ring : Dev nD ≃ Dev nD := ⟨nxt, prv, prv_nxt, nxt_prv⟩

/-! ## The buffers -/

/-- The lower half of a buffer of four experts: experts 0 and 1. -/
abbrev rLo : Rect S4x512x1024 := Rect.unit (s := S4x512x1024) ![0, 0, 0] S2x512x1024.size inb_S4x512x1024_S2x512x1024_0_0_0
/-- The upper half: experts 2 and 3. -/
abbrev rHi : Rect S4x512x1024 := Rect.unit (s := S4x512x1024) ![2, 0, 0] S2x512x1024.size inb_S4x512x1024_S2x512x1024_2_0_0

abbrev sM : Memref sig .tc .vmem S4x512x1024 .bf16 := Memref.whole cc0_scratch0
abbrev lM : Memref sig .tc .vmem S4x512x1024 .bf16 := Memref.whole cc0_scratch1
abbrev rM : Memref sig .tc .vmem S4x512x1024 .bf16 := Memref.whole cc0_scratch2
abbrev dlM : Memref sig .tc .vmem S2x512x1024 .bf16 := Memref.whole cc0_scratch3
abbrev drM : Memref sig .tc .vmem S2x512x1024 .bf16 := Memref.whole cc0_scratch4
/-- The two halves of a buffer of four experts. -/
abbrev lo (M : Memref sig .tc .vmem S4x512x1024 .bf16) : Memref sig .tc .vmem S2x512x1024 .bf16 := M.slice rLo (fun _ => rfl)
abbrev hi (M : Memref sig .tc .vmem S4x512x1024 .bf16) : Memref sig .tc .vmem S2x512x1024 .bf16 := M.slice rHi (fun _ => rfl)

/-! ## The semaphores -/

/-- The barrier semaphore, which no launch scopes. -/
abbrev barS : Sem sig := (SemArray.scalar (sig.barrier 0 rfl) : Sems sig S_).sem

/-- The kernel's own twelve transfer semaphores: of transfer `j`, `j` signals the end of the send and `6 + j` the landing. -/
abbrev osem (k : Fin 12) : SemLoc sig := .dma ⟨6 + k.val, by have := k.isLt; show 6 + k.val < 18; omega⟩
/-- The semaphore a transfer signals at its issuer. -/
abbrev sS (j : Fin 6) : DmaSem sig := ⟨6 + j.val, by have := j.isLt; show 6 + j.val < 18; omega⟩
/-- The semaphore it signals where it lands. -/
abbrev vS (j : Fin 6) : DmaSem sig := ⟨12 + j.val, by have := j.isLt; show 12 + j.val < 18; omega⟩

abbrev barCell (c : Dev nD) : GSem nD τ sig := ((c : Thread nD τ), .reg barS)
abbrev sCell (j : Fin 6) (c : Dev nD) : GSem nD τ sig := ((c : Thread nD τ), .dma (sS j))
abbrev vCell (j : Fin 6) (c : Dev nD) : GSem nD τ sig := ((c : Thread nD τ), .dma (vS j))

/-- The credit of one transfer: two experts' weights. -/
abbrev N : ℕ := dlM.view.dmaCredit
theorem N_pos : 0 < N := View.dmaCredit_pos _ (by decide)

/-! ## Contents -/

/-- Device `c`'s expert weights, as its staging buffer holds them. -/
def ew (c : Dev nD) : FVec F S4x512x1024 .f32 := iblk m c 3 t0_0
/-- The same, rounded: what its send buffer holds. -/
def wb (c : Dev nD) : FVec F S4x512x1024 .bf16 := truncf .bf16 (ew m c) bitsLt_bf16_f32
/-- The lower and the upper half of that. -/
def wLo (c : Dev nD) : FVec F S2x512x1024 .bf16 := fun j => wb m c (rLo.emb j)
def wHi (c : Dev nD) : FVec F S2x512x1024 .bf16 := fun j => wb m c (rHi.emb j)

/-- Rounding the lower half of the weights is the lower half of the rounded weights; and so above. -/
theorem pay1_eq (c : Dev nD) : k0_pay1 (fun j => ew m c (rLo.emb j)) = wLo m c := by
  unfold k0_pay1 wLo wb; dsimp only; rw [shapeCast_self, shapeCast_self]; rfl
theorem pay2_eq (c : Dev nD) : k0_pay2 (fun j => ew m c (rHi.emb j)) = wHi m c := by
  unfold k0_pay2 wHi wb; dsimp only; rw [shapeCast_self, shapeCast_self]; rfl

/-- Device `c`'s TensorCore owns `M`'s elements at share `q` and reads `X` there. -/
abbrev own {s : Shape} {e : EltTy} (c : Dev nD) (M : Memref sig .tc .vmem s e) (q : PosShare TreeShare) (X : s.Idx → Elt F e) : sProp 𝕄 :=
  owns (Ix := Unit) (Name := ℕ) (U := UU) (Lvl := ℕ) (c : Thread nD τ) M q X

/-- The share of the send buffer's halves that goes with the transfer to the device after, that which goes with the
    transfer to the device before, and that kept. -/
abbrev qA : PosShare TreeShare := fullShare.left
abbrev qB : PosShare TreeShare := fullShare.right.left
abbrev qC : PosShare TreeShare := fullShare.right.right

/-! ## The schedule -/

/-- What a device's signal to the device after it hands over: its `recv_r` and `recv_dr`, at any contents. -/
def barFrom (c : Dev nD) : sProp 𝕄 := iprop((∃ f, own c rM fullShare f) ∗ ∃ f, own (F := F) c drM fullShare f)
/-- What a device's signal to the device before it hands over: its `recv_l` and `recv_dl`. -/
def barBack (c : Dev nD) : sProp 𝕄 := iprop((∃ f, own c lM fullShare f) ∗ ∃ f, own (F := F) c dlM fullShare f)

/-- What comes back to device `c` when transfer `j` has left: the share of the source that went with it. -/
def sendPay (c : Dev nD) : Fin 6 → sProp 𝕄
  | 0 => own c (lo sM) qA (wLo m c)
  | 1 => own c (hi sM) qA (wHi m c)
  | 2 => own c (lo sM) qB (wLo m c)
  | 3 => own c (hi sM) qB (wHi m c)
  | 4 => own c (lo lM) qA (wLo m (prv c))
  | 5 => own c (hi rM) qA (wHi m (nxt c))

/-- What device `c` holds when transfer `j` has landed on it. -/
def recvPay (c : Dev nD) : Fin 6 → sProp 𝕄
  | 0 => own c (lo lM) fullShare (wLo m (prv c))
  | 1 => own c (hi lM) fullShare (wHi m (prv c))
  | 2 => own c (lo rM) fullShare (wLo m (nxt c))
  | 3 => own c (hi rM) fullShare (wHi m (nxt c))
  | 4 => own c dlM fullShare (wLo m (prv (prv c)))
  | 5 => own c drM fullShare (wHi m (nxt (nxt c)))

instance own_storable {s : Shape} {e : EltTy} (c : Dev nD) (M : Memref sig .tc .vmem s e) (q : PosShare TreeShare) (X : s.Idx → Elt F e) :
    BI.Storable (upEmb : UEmb _ 𝕄) (own c M q X) := by unfold own owns; infer_instance
instance barFrom_storable (c : Dev nD) : BI.Storable (upEmb : UEmb _ 𝕄) (barFrom (F := F) c) := by unfold barFrom; infer_instance
instance barBack_storable (c : Dev nD) : BI.Storable (upEmb : UEmb _ 𝕄) (barBack (F := F) c) := by unfold barBack; infer_instance
instance sendPay_storable (c : Dev nD) (j : Fin 6) : BI.Storable (upEmb : UEmb _ 𝕄) (sendPay m c j) := by
  fin_cases j <;> (unfold sendPay; infer_instance)
instance recvPay_storable (c : Dev nD) (j : Fin 6) : BI.Storable (upEmb : UEmb _ 𝕄) (recvPay m c j) := by
  fin_cases j <;> (unfold recvPay; infer_instance)

/-- The transfer a semaphore serves at its issuer, or where it lands. -/
def sIdx (g : SemLoc sig) : Option (Fin 6) := match g with
  | .dma q => if h : 6 ≤ q.val ∧ q.val < 12 then some ⟨q.val - 6, by omega⟩ else none
  | _ => none
def vIdx (g : SemLoc sig) : Option (Fin 6) := match g with
  | .dma q => if h : 12 ≤ q.val ∧ q.val < 18 then some ⟨q.val - 12, by omega⟩ else none
  | _ => none

theorem sIdx_s (j : Fin 6) : sIdx (.dma (sS j)) = some j := by revert j; decide
theorem vIdx_s (j : Fin 6) : vIdx (.dma (sS j)) = none := by revert j; decide
theorem vIdx_v (j : Fin 6) : vIdx (.dma (vS j)) = some j := by revert j; decide

abbrev IsBar (g : GSem nD τ sig) : Prop := g.1.2 = .tc ∧ g.2 = .reg barS
abbrev IsXfer (g : GSem nD τ sig) : Prop := g.1.2 = .tc ∧ (sIdx g.2 ≠ none ∨ vIdx g.2 ≠ none)

/-- One round, round 0: a barrier cell has one duty of one unit for each neighbour, `false` the device before's and `true`
    the device after's; a transfer's cell has the one duty `false`, of the transfer's credit. -/
def ringRd : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d :=
    if g.2 = .reg barS then (if d then barBack (nxt g.1.1) else barFrom (prv g.1.1))
    else match vIdx g.2 with
      | some j => recvPay m g.1.1 j
      | none => match sIdx g.2 with
        | some j => sendPay m g.1.1 j
        | none => iprop(emp)
  amount_pos g _ _ _ := by
    by_cases h : g.2 = .reg barS
    · rw [if_pos h]; exact Nat.one_pos
    · rw [if_neg h]; exact N_pos

instance ringRd_payload_storable (g : GSem nD τ sig) (r : ℕ) (d : Bool) :
    BI.Storable (upEmb : UEmb _ 𝕄) ((ringRd m).payload g r d) := by
  show BI.Storable upEmb (if g.2 = .reg barS then (if d then barBack (nxt g.1.1) else barFrom (prv g.1.1))
    else match vIdx g.2 with
      | some j => recvPay m g.1.1 j
      | none => match sIdx g.2 with
        | some j => sendPay m g.1.1 j
        | none => iprop(emp))
  (repeat' split) <;> infer_instance

section Sched
variable (c : Dev nD) (j : Fin 6)

theorem s_ne_bar : (SemLoc.dma (sS j) : SemLoc sig) ≠ .reg barS := fun h => by cases h
theorem v_ne_bar : (SemLoc.dma (vS j) : SemLoc sig) ≠ .reg barS := fun h => by cases h

theorem duties_bar : (ringRd m).duties (barCell c) 0 = Finset.univ := by dsimp only [ringRd]; exact if_pos ⟨rfl, rfl, rfl⟩
theorem duties_s : (ringRd m).duties (sCell j c) 0 = {false} := by
  dsimp only [ringRd]; rw [if_neg (fun h => s_ne_bar j h.2.2)]
  exact if_pos ⟨rfl, rfl, .inl (by rw [sIdx_s]; exact Option.some_ne_none _)⟩
theorem duties_v : (ringRd m).duties (vCell j c) 0 = {false} := by
  dsimp only [ringRd]; rw [if_neg (fun h => v_ne_bar j h.2.2)]
  exact if_pos ⟨rfl, rfl, .inr (by rw [vIdx_v]; exact Option.some_ne_none _)⟩
theorem duties_later (g : GSem nD τ sig) : ∀ r, 1 ≤ r → (ringRd m).duties g r = ∅ :=
  fun r hr => by dsimp only [ringRd]; rw [if_neg fun h => by omega, if_neg fun h => by omega]

theorem amount_bar (d : Bool) : (ringRd m).amount (barCell c) 0 d = 1 := by dsimp only [ringRd]; exact if_pos rfl
theorem amount_s (d : Bool) : (ringRd m).amount (sCell j c) 0 d = N := by dsimp only [ringRd]; exact if_neg (s_ne_bar j)
theorem amount_v (d : Bool) : (ringRd m).amount (vCell j c) 0 d = N := by dsimp only [ringRd]; exact if_neg (v_ne_bar j)

theorem expect_bar : (ringRd m).expect (barCell c) 0 = 2 := by
  unfold Schedule.expect Schedule.amountOf
  rw [duties_bar, Finset.sum_congr rfl fun d _ => amount_bar m c d, Finset.sum_const, Finset.card_univ, Fintype.card_bool, smul_eq_mul]
theorem expect_s : (ringRd m).expect (sCell j c) 0 = N := by
  unfold Schedule.expect Schedule.amountOf; rw [duties_s, Finset.sum_singleton, amount_s]
theorem expect_v : (ringRd m).expect (vCell j c) 0 = N := by
  unfold Schedule.expect Schedule.amountOf; rw [duties_v, Finset.sum_singleton, amount_v]

theorem payload_bar_true : (ringRd m).payload (barCell c) 0 true = barBack (nxt c) := by dsimp only [ringRd]; rw [if_pos rfl, if_pos rfl]
theorem payload_bar_false : (ringRd m).payload (barCell c) 0 false = barFrom (prv c) := by
  dsimp only [ringRd]; rw [if_pos rfl]; exact if_neg Bool.false_ne_true
theorem payload_s (d : Bool) : (ringRd m).payload (sCell j c) 0 d = sendPay m c j := by
  dsimp only [ringRd]; rw [if_neg (s_ne_bar j), vIdx_s, sIdx_s]
theorem payload_v (d : Bool) : (ringRd m).payload (vCell j c) 0 d = recvPay m c j := by
  dsimp only [ringRd]; rw [if_neg (v_ne_bar j), vIdx_v]

/-- All of the barrier cell's round: what both neighbours hand over. -/
theorem rest_bar : bigSep ((ringRd m).duties (barCell c) 0 \ ∅) (fun d => (ringRd m).payload (barCell c) 0 d)
    = iprop(barFrom (prv c) ∗ barBack (nxt c)) := by
  rw [Finset.sdiff_empty, duties_bar, bigSep_univ_eq_bigSepL [false, true] (by decide) (by decide), bigSepL_cons_cons, bigSepL_singleton,
    payload_bar_false, payload_bar_true]
  rfl
theorem rest_s : bigSep ((ringRd m).duties (sCell j c) 0 \ ∅) (fun d => (ringRd m).payload (sCell j c) 0 d) = sendPay m c j := by
  rw [Finset.sdiff_empty, duties_s, bigSep_singleton, payload_s]
theorem rest_v : bigSep ((ringRd m).duties (vCell j c) 0 \ ∅) (fun d => (ringRd m).payload (vCell j c) 0 d) = recvPay m c j := by
  rw [Finset.sdiff_empty, duties_v, bigSep_singleton, payload_v]

end Sched

/-! ## What each core owes at launch; the levels -/

/-- What device `c` still owes when its last transfer, its last two, … are yet to be made, latest first; then with the
    two barrier signals. -/
def O5 (c : Dev nD) : CellTallies nD τ sig Unit := tallyAt (vCell 5 (prv c)) () N
def O4 (c : Dev nD) : CellTallies nD τ sig Unit := O5 c + tallyAt (vCell 4 (nxt c)) () N
def O3 (c : Dev nD) : CellTallies nD τ sig Unit := O4 c + tallyAt (vCell 3 (prv c)) () N
def O2 (c : Dev nD) : CellTallies nD τ sig Unit := O3 c + tallyAt (vCell 1 (nxt c)) () N
def O1 (c : Dev nD) : CellTallies nD τ sig Unit := O2 c + tallyAt (vCell 2 (prv c)) () N
def Ox (c : Dev nD) : CellTallies nD τ sig Unit := O1 c + tallyAt (vCell 0 (nxt c)) () N
def Ob (c : Dev nD) : CellTallies nD τ sig Unit := Ox c + tallyAt (barCell (nxt c)) () 1
def O₀ (c : Dev nD) : CellTallies nD τ sig Unit := Ob c + tallyAt (barCell (prv c)) () 1

def L (g : GSem nD τ sig) : Finset Unit := if g.1.2 = .tc then {()} else ∅
/-- Barrier cells at level 1, the landings of the first four transfers at 2, of the two passed on at 3, all else at 0. -/
def lv (g : GSem nD τ sig) (_ : Unit) : ℕ :=
  if g.2 = .reg barS then 1 else match vIdx g.2 with | some j => if j.val < 4 then 2 else 3 | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_v (j : Fin 6) (c : Dev nD) (u : Unit) : lv (vCell j c) u = if j.val < 4 then 2 else 3 := by
  unfold lv; rw [if_neg (v_ne_bar j), vIdx_v]

/-- All that `O` owes lies on TensorCores' cells of level above `n`. -/
def Above (n : ℕ) (O : CellTallies nD τ sig Unit) : Prop := ∀ g u, 0 < O g u → g.1.2 = .tc ∧ n < lv g u

theorem above_add {n : ℕ} {O D : CellTallies nD τ sig Unit} (h : Above n O) (h' : Above n D) : Above n (O + D) := fun g u hg => by
  rw [Pi.add_apply, Finsupp.add_apply] at hg
  by_cases h0 : O g u = 0
  · rw [h0, Nat.zero_add] at hg; exact h' g u hg
  · exact h g u (Nat.pos_of_ne_zero h0)
theorem above_tally {n : ℕ} {c : Dev nD} {sm : SemLoc sig} {k : ℕ} (h : n < lv ((c : Thread nD τ), sm) ()) :
    Above n (tallyAt ((c : Thread nD τ), sm) () k) := fun g u hg => by
  rw [tallyAt_apply] at hg
  by_cases hc : g = ((c : Thread nD τ), sm) ∧ u = ()
  · rw [hc.1]; exact ⟨rfl, h⟩
  · rw [if_neg hc] at hg; exact absurd hg (Nat.lt_irrefl 0)
theorem above_v {n : ℕ} (j : Fin 6) (c : Dev nD) (h : n < if j.val < 4 then 2 else 3) : Above n (tallyAt (vCell j c) () N) :=
  above_tally (by rw [lv_v]; exact h)
theorem above_bar {n : ℕ} (c : Dev nD) (h : n < 1) : Above n (tallyAt (barCell c) () 1) := above_tally (by rw [lv_bar]; exact h)

theorem above_O5 (c : Dev nD) : Above 2 (O5 c) := above_v 5 _ (by decide)
theorem above_O4 (c : Dev nD) : Above 2 (O4 c) := above_add (above_O5 c) (above_v 4 _ (by decide))
theorem Above.mono {n k : ℕ} {O : CellTallies nD τ sig Unit} (h : Above n O) (hk : k ≤ n) : Above k O :=
  fun g u hg => ⟨(h g u hg).1, Nat.lt_of_le_of_lt hk (h g u hg).2⟩
theorem above_Ox (c : Dev nD) : Above 1 (Ox c) :=
  above_add (above_add (above_add (above_add ((above_O4 c).mono (by decide)) (above_v 3 _ (by decide))) (above_v 1 _ (by decide)))
    (above_v 2 _ (by decide))) (above_v 0 _ (by decide))
theorem above_O₀ (c : Dev nD) : Above 0 (O₀ c) :=
  above_add (above_add ((above_Ox c).mono (by decide)) (above_bar _ (by decide))) (above_bar _ (by decide))

/-- A device may wait at a cell of level at most `n` while all it owes lies above `n`. -/
theorem mayWait_of_above {n : ℕ} {O : CellTallies nD τ sig Unit} (h : Above n O) (c : Dev nD) (sm : SemLoc sig)
    (hs : lv ((c : Thread nD τ), sm) () ≤ n) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hs)
    (fun g u hg => (h g u hg).2)

end Cert.MoE

end
-- ==== Proof.Steps.lean ====
/-
One step of a device's program at a time: the barrier signals, a transfer, the wait for its landing and for its
leaving, the loads and the stores, each as one rule over the ring's schedule.
-/
module

public import proofs.«01_k».proof.Proof.Ring

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The cells by name -/

/-- The ring's cells of one device: the barrier, and for each transfer the leaving (`false`) and the landing (`true`). -/
abbrev CK : Type := Option (Bool × Fin 6)
abbrev csem : CK → SemLoc sig
  | none => .reg barS
  | some (false, j) => .dma (sS j)
  | some (true, j) => .dma (vS j)
abbrev kcell (ck : Dev nD × CK) : GSem nD τ sig := ((ck.1 : Thread nD τ), csem ck.2)

/-- Every cell's invariant, under the names `K`, and that every cell has reached round 0. -/
def records (K : Dev nD × CK → ℕ) : sProp 𝕄 :=
  iprop((bigSep Finset.univ fun ck : Dev nD × CK => cellInv ER (ringRd m) (K ck) (kcell ck))
    ∗ bigSep Finset.univ fun ck : Dev nD × CK => reached ER (kcell ck) 0)

instance records_persistent (K : Dev nD × CK → ℕ) : BI.Persistent (records m K) := by unfold records; infer_instance

theorem inv_at (K : Dev nD × CK → ℕ) (ck : Dev nD × CK) :
    (bigSep Finset.univ fun ck : Dev nD × CK => (cellInv ER (ringRd m) (K ck) (kcell ck) : sProp 𝕄)) ⊢ cellInv ER (ringRd m) (K ck) (kcell ck) :=
  bigSep_elim (Finset.mem_univ ck)
omit [FloatOps F] in
theorem reached_at (ck : Dev nD × CK) :
    (bigSep Finset.univ fun ck : Dev nD × CK => (reached ER (kcell ck) 0 : sProp 𝕄)) ⊢ reached ER (kcell ck) 0 :=
  bigSep_elim (Finset.mem_univ ck)

theorem records_inv (K : Dev nD × CK → ℕ) (ck : Dev nD × CK) :
    (records m K : sProp 𝕄) ⊢ cellInv ER (ringRd m) (K ck) (kcell ck) := by
  unfold records; iintro ⟨H, -⟩
  iapply (inv_at m K ck); iexact H
theorem records_reached (K : Dev nD × CK → ℕ) (ck : Dev nD × CK) : (records m K : sProp 𝕄) ⊢ reached ER (kcell ck) 0 := by
  unfold records; iintro ⟨-, H⟩
  iapply (reached_at (F := F) ck); iexact H

/-! ## What a device owes, whatever waits it has made -/

def owing (c : Dev nD) (O : CellTallies nD τ sig Unit) : sProp 𝕄 := iprop(∃ W, owes (c : Thread nD τ) O W)

/-- Every memref of two experts' weights has the one credit. -/
theorem credit_eq (M : Memref sig .tc .vmem S2x512x1024 .bf16) : M.view.dmaCredit = N := rfl

section Steps

variable (K : Dev nD × CK → ℕ)
variable {α : Type}

/-- A signal to device `n`'s barrier cell pays its duty `d` with the payload. -/
theorem step_signal {Q : α → sProp 𝕄} (c n n' : Dev nD) (hn : n' = n) (d : Bool) {k : PUnit → Prog (TpuEff nD τ sig (Elt F) Λ₀ .tc) α}
    (O : CellTallies nD τ sig Unit) {w : BitVec 32} (hw : w = 1#32) :
    iprop(records m K ∗ owing c (O + tallyAt (barCell n) () 1) ∗ dutyTok ER (barCell n) 0 d ∗ (ringRd m).payload (barCell n) 0 d)
      ⊢ iprop((owing c O -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n' : Thread nD τ) barS w.toNat) k) Q) := by
  subst hn; subst hw
  unfold owing
  iintro ⟨#HR, ⟨%W, HO⟩, Ht, Hp⟩ Hk
  iapply (Rounds.wp_signal 𝒱₀ ER (ringRd m) (c : Thread nD τ) none (dst := (n' : Thread nD τ)) (κ := K (n', none))
      (d := d) (by rw [duties_bar]; exact Finset.mem_univ _) ((amount_bar m n' d).trans (by decide)) () O rfl) $$ [HO Ht Hp]
  · isplitr; · iapply (records_inv m K (n', none)); iexact HR
    isplitl [HO]; · iexact HO
    isplitl [Ht]; · iexact Ht
    isplitl [Hp]; · iexact Hp
    iapply (records_reached m K (n', none)); iexact HR
  iintro HO
  iapply Hk; iexists W; iexact HO

/-- The wait for both units of the own barrier cell, which is closed: both neighbours' landing buffers come with it. -/
theorem step_waitBar {Q : α → sProp 𝕄} (c : Dev nD) {k : PUnit → Prog (TpuEff nD τ sig (Elt F) Λ₀ .tc) α} {w : BitVec 32} (hw : w = 2#32) :
    iprop(records m K ∗ levAts L lv ∗ owing c (Ox c) ∗ cred (tallyAt (barCell c) () 2) ∗ atPos ER (barCell c) 0 ∅ 0)
      ⊢ iprop(((owing c (Ox c) ∗ semVal (barCell c) 0 ∗ barFrom (prv c) ∗ barBack (nxt c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS w.toNat) k) Q) := by
  subst hw
  unfold owing
  iintro ⟨#HR, #Hlev, ⟨%W, HO⟩, Hc, Hat⟩ Hk
  ihave #HI := (records_inv m K (c, none)) $$ HR
  iapply (Rounds.wp_wait_rest_token 𝒱₀ ER (ringRd m) (c : Thread nD τ) none (κ := K (c, none))
      (wpE_semWait_eq 𝒱₀ (c : Thread nD τ) none Set.univ) (Set.mem_univ _) () (O := Ox c) (W := W) (R := 0) (m := 0) (T := ∅)
      (by rw [expect_bar]; decide)) $$ [Hc HO Hat]
  · isplitr; · iexact HI
    isplitl [Hc]; · iexact Hc
    isplitl [HO]; · iexact HO
    isplitr; · iapply (mayWait_of_above (above_Ox c) c (.reg barS) (by rw [lv_bar])); iexact Hlev
    iexact Hat
  iintro ⟨HO, Hat, -, Hpay⟩
  ihave Hp := (Entails.of_eq (rest_bar m c)) $$ Hpay
  imod (Rounds.cell_close ER (ringRd m) (Set.mem_univ (K (c, none))) (fun h => h) (R := 0 + 1) (duties_later m (barCell c))) $$ [Hat] with Hz
  · isplitr; · iexact HI
    iexact Hat
  iapply Hk
  isplitl [HO]; · iexists _; iexact HO
  isplitl [Hz]; · iexact Hz
  iexact Hp

/-- Transfer `j` of device `c` to device `n`, from a share `q` of a memref read at `X` into a memref owned outright. -/
theorem step_send {Q : α → sProp 𝕄} (j : Fin 6) (c n n' : Dev nD) (hn : n' = n) {src dst : Memref sig .tc .vmem S2x512x1024 .bf16} {q : PosShare TreeShare}
    {X : S2x512x1024.Idx → Elt F .bf16} (hs : sendPay m c j = own c src q X) (hv : recvPay m n j = own n dst fullShare X)
    {s1 s2 : DmaSem sig} (h1 : s1 = sS j) (h2 : s2 = vS j)
    {hsc : (dst : Memref sig (Dev.tc n' : Thread nD τ).2.kind .vmem S2x512x1024 .bf16).view.ref.isScScratch = false}
    {hsrc : src.view.WordExact} {hdst : (dst : Memref sig (Dev.tc n' : Thread nD τ).2.kind .vmem S2x512x1024 .bf16).view.WordExact}
    {hsem : DmaTarget.Typed .vmem (.dma s2) (.remote (Dev.tc n' : Thread nD τ) (dst : Memref sig (Dev.tc n' : Thread nD τ).2.kind .vmem S2x512x1024 .bf16) (.dma s1) hsc)}
    {k : PUnit → Prog (TpuEff nD τ sig (Elt F) Λ₀ .tc) α} (O : CellTallies nD τ sig Unit) :
    iprop(records m K ∗ own c src q X ∗ (∃ Y, own n dst fullShare Y) ∗ owing c (O + tallyAt (vCell j n) () N)
        ∗ dutyTok ER (sCell j c) 0 false ∗ dutyTok ER (vCell j n) 0 false)
      ⊢ iprop(((cred (tallyAt (sCell j c) () N) ∗ owing c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n' : Thread nD τ) dst (.dma s1) hsc) (.dma s2) hsrc hdst hsem) k) Q) := by
  subst hn; subst h1; subst h2
  unfold owing
  iintro ⟨#HR, Hsrc, ⟨%Y, Hdst⟩, ⟨%W, HO⟩, Hts, Htv⟩ Hk
  ihave Hsrc := (show own c src q X ⊢ iprop(∃ f, ⌜src.view.read (Elt F) f = X⌝ ∗ (src.view.loc (c : Thread nD τ) ↦[src.view.set]{q} f)) from .rfl) $$ Hsrc
  ihave Hdst := (show own n' dst fullShare Y ⊢ iprop(∃ f, ⌜dst.view.read (Elt F) f = Y⌝ ∗ (dst.view.loc (n' : Thread nD τ) ↦[dst.view.set]{fullShare} f)) from .rfl) $$ Hdst
  icases Hsrc with ⟨%fs, %hfs, Hsrc⟩
  icases Hdst with ⟨%fd, -, Hdst⟩
  iapply (Rounds.wp_send_pointsTo 𝒱₀ ER (ringRd m) (c : Thread nD τ) none (κ₁ := K (c, some (false, j))) (κ₂ := K (n', some (true, j)))
    (r₁ := 0) (r₂ := 0) (d₁ := false) (d₂ := false) (fd := fd) (fs := fs) (q := q)
    (by rw [duties_s]; exact Finset.mem_singleton_self _) (by rw [duties_v]; exact Finset.mem_singleton_self _)
    () () N (show dst.view.amount (.dma (vS j)) = N from credit_eq dst) (amount_s m c j false) (amount_v m n' j false) O rfl (W := W)
    (by rw [payload_s, hs]; subst hfs; exact owns_intro (c : Thread nD τ) src q fs)
    (by
      rw [payload_v, hv]
      refine (owns_intro (n' : Thread nD τ) dst fullShare _).trans (Entails.of_eq ?_)
      rw [View.read_write_univ, hfs])) $$ [Hsrc Hdst HO Hts Htv]
  · isplitr; · iapply (records_inv m K (c, some (false, j))); iexact HR
    isplitr; · iapply (records_inv m K (n', some (true, j))); iexact HR
    isplitl [Hsrc]; · iexact Hsrc
    isplitl [Hdst]; · iexact Hdst
    isplitl [HO]; · iexact HO
    isplitl [Hts]; · iexact Hts
    isplitr; · iapply (records_reached m K (c, some (false, j))); iexact HR
    isplitl [Htv]; · iexact Htv
    iapply (records_reached m K (n', some (true, j))); iexact HR
  iintro ⟨Hc, HO⟩
  iapply Hk
  isplitl [Hc]; · iexact Hc
  iexists W; iexact HO

/-- The wait for transfer `j`'s landing on device `c`, while all `c` owes lies above that cell: what landed comes with it,
    and the cell is closed. -/
theorem step_waitV {Q : α → sProp 𝕄} (j : Fin 6) (c : Dev nD) {sp' : Space} {s' : Shape} {e' : EltTy} {src : Memref sig .tc sp' s' e'} {dst : Memref sig .tc .vmem S2x512x1024 .bf16}
    {s2 : DmaSem sig} (h2 : s2 = vS j) {hsrc : src.view.WordExact} {hdst : dst.view.WordExact}
    {k : PUnit → Prog (TpuEff nD τ sig (Elt F) Λ₀ .tc) α} {O : CellTallies nD τ sig Unit}
    (hO : (levAts L lv : sProp 𝕄) ⊢ MayWait (c : Thread nD τ) (.dma (vS j)) () O) :
    iprop(records m K ∗ levAts L lv ∗ owing c O ∗ cred (tallyAt (vCell j c) () N) ∗ atPos ER (vCell j c) 0 ∅ 0)
      ⊢ iprop(((owing c O ∗ semVal (vCell j c) 0 ∗ recvPay m c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s2 src dst hsrc hdst) k) Q) := by
  subst h2
  have hN := credit_eq dst
  unfold owing
  iintro ⟨#HR, #Hlev, ⟨%W, HO⟩, Hc, Hat⟩ Hk
  ihave #HI := (records_inv m K (c, some (true, j))) $$ HR
  iapply (Rounds.wp_wait_rest_token 𝒱₀ ER (ringRd m) (c : Thread nD τ) none (κ := K (c, some (true, j)))
      (wpE_waitDma2_eq 𝒱₀ (c : Thread nD τ) none Set.univ) (Set.mem_univ _) () (O := O) (W := W) (R := 0) (m := 0) (T := ∅)
      (by rw [Nat.zero_add, expect_v, hN])) $$ [Hc HO Hat]
  · isplitr; · iexact HI
    isplitl [Hc]; · rw [hN]; iexact Hc
    isplitl [HO]; · iexact HO
    isplitr; · iapply hO; iexact Hlev
    iexact Hat
  iintro ⟨HO, Hat, -, Hpay⟩
  ihave Hp := (Entails.of_eq (rest_v m c j)) $$ Hpay
  imod (Rounds.cell_close ER (ringRd m) (Set.mem_univ (K (c, some (true, j)))) (fun h => h) (R := 0 + 1) (duties_later m (vCell j c))) $$ [Hat] with Hz
  · isplitr; · iexact HI
    iexact Hat
  iapply Hk
  isplitl [HO]; · iexists _; iexact HO
  isplitl [Hz]; · iexact Hz
  iexact Hp

/-- The wait for transfer `j` of device `c` to have left, when `c` owes nothing: the share of its source comes back, and
    the cell is closed. -/
theorem step_waitS {Q : α → sProp 𝕄} (j : Fin 6) (c : Dev nD) {sp' : Space} {s' : Shape} {e' : EltTy} {src : Memref sig .tc sp' s' e'} {dst : Memref sig .tc .vmem S2x512x1024 .bf16}
    {s2 : DmaSem sig} (h2 : s2 = sS j) {hsrc : src.view.WordExact} {hdst : dst.view.WordExact}
    {k : PUnit → Prog (TpuEff nD τ sig (Elt F) Λ₀ .tc) α} :
    iprop(records m K ∗ owing c 0 ∗ cred (tallyAt (sCell j c) () N) ∗ atPos ER (sCell j c) 0 ∅ 0)
      ⊢ iprop(((owing c 0 ∗ semVal (sCell j c) 0 ∗ sendPay m c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s2 src dst hsrc hdst) k) Q) := by
  subst h2
  have hN := credit_eq dst
  unfold owing
  iintro ⟨#HR, ⟨%W, HO⟩, Hc, Hat⟩ Hk
  ihave #HI := (records_inv m K (c, some (false, j))) $$ HR
  iapply (Rounds.wp_wait_rest_token 𝒱₀ ER (ringRd m) (c : Thread nD τ) none (κ := K (c, some (false, j)))
      (wpE_waitDma2_eq 𝒱₀ (c : Thread nD τ) none Set.univ) (Set.mem_univ _) () (O := 0) (W := W) (R := 0) (m := 0) (T := ∅)
      (by rw [Nat.zero_add, expect_s, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_s m c j)) $$ Hpay
  imod (Rounds.cell_close ER (ringRd m) (Set.mem_univ (K (c, some (false, j)))) (fun h => h) (R := 0 + 1) (duties_later m (sCell j c))) $$ [Hat] with Hz
  · isplitr; · iexact HI
    iexact Hat
  iapply Hk
  isplitl [HO]; · iexists _; iexact HO
  isplitl [Hz]; · iexact Hz
  iexact Hp

/-! ## Loads and stores -/

/-- A load through a rectangle of which the elements are owned reads what is there. -/
theorem step_loadSlice {Q : α → sProp 𝕄} (c : Dev nD) {s : Shape} {e : EltTy} {M : Memref sig .tc .vmem s e} {r : Rect s} {hr : ∀ a, r.stride a = 1}
    {hl : M.view.LoadsAt r.toLoadRect} {q : PosShare TreeShare} {X : r.shape.Idx → Elt F e}
    {k : (r.toLoadRect.shape.Idx → Elt F e) → Prog (TpuEff nD τ sig (Elt F) Λ₀ .tc) α} :
    own c (M.slice r hr) q X
      ⊢ iprop((own c (M.slice r hr) q X -∗ wp frame (wpE (defs₀ (F := F)) 𝒱₀ (c : Thread nD τ) none) Set.univ (k X) Q)
          -∗ wp frame (wpE (defs₀ (F := F)) 𝒱₀ (c : Thread nD τ) none) Set.univ (.op (.load M r.toLoadRect hl) k) Q) := by
  iintro H Hk
  ihave H := (show own c (M.slice r hr) q X ⊢ iprop(∃ f, ⌜(M.access r).read (Elt F) f = X⌝ ∗ ((M.access r).loc (c : Thread nD τ) ↦[(M.access r).set]{q} f)) from .rfl) $$ H
  icases H with ⟨%f, %hf, H⟩
  iapply (wp_load_rect 𝒱₀ (c : Thread nD τ) none Set.univ (m := M) (r := r) (Finset.Subset.refl _)) $$ H
  iintro H
  rw [hf]
  iapply Hk
  iapply (show iprop(∃ f, ⌜(M.access r).read (Elt F) f = X⌝ ∗ ((M.access r).loc (c : Thread nD τ) ↦[(M.access r).set]{q} f)) ⊢ own c (M.slice r hr) q X from .rfl)
  iexists f
  isplitr; · ipureintro; exact hf
  iexact H

/-- A store through a rectangle of which the elements are owned outright leaves there what it stores. -/
theorem step_storeSlice {Q : α → sProp 𝕄} (c : Dev nD) {s : Shape} {e : EltTy} {M : Memref sig .tc .vmem s e} {r : Rect s} {hr : ∀ a, r.stride a = 1}
    {X w w' : r.shape.Idx → Elt F e} (hw : w = w') {hx : (M.access r).Stores Finset.univ} {hm : Finset.univ = Finset.univ ∨ ∀ a, r.stride a = 1}
    {k : PUnit → Prog (TpuEff nD τ sig (Elt F) Λ₀ .tc) α} :
    own c (M.slice r hr) fullShare X
      ⊢ iprop((own c (M.slice r hr) fullShare w' -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  subst hw
  iintro H Hk
  ihave H := (show own c (M.slice r hr) fullShare X ⊢ iprop(∃ f, ⌜(M.access r).read (Elt F) f = X⌝ ∗ ((M.access r).loc (c : Thread nD τ) ↦[(M.access r).set]{fullShare} f)) from .rfl) $$ H
  icases H with ⟨%f, -, H⟩
  iapply (wp_store 𝒱₀ (c : Thread nD τ) none Set.univ (m := M) (r := r) (w := w) (Mk := Finset.univ) (hx := hx) (hm := hm) (k := k)
    (S := (M.access r).set) (f := f) (Finset.Subset.refl _)) $$ H
  iintro H
  iapply Hk
  iapply (show iprop(∃ f, ⌜(M.access r).read (Elt F) f = w⌝ ∗ ((M.access r).loc (c : Thread nD τ) ↦[(M.access r).set]{fullShare} f)) ⊢ own c (M.slice r hr) fullShare w from .rfl)
  iexists ((M.access r).write (Elt F) f w Finset.univ)
  isplitr
  · ipureintro; exact View.read_write_univ _ _
  iexact H

/-- The rectangle at offset zero of all of a shape embeds every index as itself. -/
theorem emb_zero {s : Shape} {off : Fin s.rank → Nat} (h : off = fun _ => 0) (inb : ∀ a, off a + s.size a ≤ s.size a) (j : s.Idx) :
    (Rect.unit off s.size inb).emb j = j := by
  subst h; funext a; apply Fin.ext; show 0 + 1 * (j a).val = (j a).val; omega

/-- A load of any rectangle of an owned memref reads its part of the contents; -/
theorem step_loadPart {Q : α → sProp 𝕄} (c : Dev nD) {s : Shape} {e : EltTy} {M : Memref sig .tc .vmem s e} {r : Rect s}
    {hl : M.view.LoadsAt r.toLoadRect} {q : PosShare TreeShare} {X : s.Idx → Elt F e}
    {k : (r.toLoadRect.shape.Idx → Elt F e) → Prog (TpuEff nD τ sig (Elt F) Λ₀ .tc) α} :
    own c M q X
      ⊢ iprop((own c M q X -∗ wp frame (wpE (defs₀ (F := F)) 𝒱₀ (c : Thread nD τ) none) Set.univ (k (fun j => X (r.emb j))) Q)
          -∗ wp frame (wpE (defs₀ (F := F)) 𝒱₀ (c : Thread nD τ) none) Set.univ (.op (.load M r.toLoadRect hl) k) Q) := by
  iintro H Hk
  ihave H := (show own c M q X ⊢ iprop(∃ f, ⌜M.view.read (Elt F) f = X⌝ ∗ ((M.access r).loc (c : Thread nD τ) ↦[M.view.set]{q} f)) from .rfl) $$ H
  icases H with ⟨%f, %hf, H⟩
  iapply (wp_load_rect 𝒱₀ (c : Thread nD τ) none Set.univ (m := M) (r := r) (S := M.view.set) (View.set_slice_subset _ r)) $$ H
  iintro H
  rw [show (M.access r).read (Elt F) f = (fun j => X (r.emb j)) by subst hf; rfl]
  iapply Hk
  iapply (show iprop(∃ f, ⌜M.view.read (Elt F) f = X⌝ ∗ ((M.access r).loc (c : Thread nD τ) ↦[M.view.set]{q} f)) ⊢ own c M q X from .rfl)
  iexists f
  isplitr; · ipureintro; exact hf
  iexact H

/-- a load of all of it reads the contents; -/
theorem step_load {Q : α → sProp 𝕄} (c : Dev nD) {s : Shape} {e : EltTy} {M : Memref sig .tc .vmem s e} {off : Fin s.rank → Nat} (h : off = fun _ => 0)
    {inb : ∀ a, off a + s.size a ≤ s.size a}
    {hl : M.view.LoadsAt (Rect.unit off s.size inb).toLoadRect} {q : PosShare TreeShare} {X : s.Idx → Elt F e}
    {k : (s.Idx → Elt F e) → Prog (TpuEff nD τ sig (Elt F) Λ₀ .tc) α} :
    own c M q X
      ⊢ iprop((own c M q X -∗ wp frame (wpE (defs₀ (F := F)) 𝒱₀ (c : Thread nD τ) none) Set.univ (k X) Q)
          -∗ wp frame (wpE (defs₀ (F := F)) 𝒱₀ (c : Thread nD τ) none) Set.univ (.op (.load M (Rect.unit off s.size inb).toLoadRect hl) k) Q) := by
  have H := step_loadPart (F := F) (Q := Q) c (M := M) (r := Rect.unit off s.size inb) (hl := hl) (q := q) (X := X) (k := k)
  simp only [emb_zero h inb] at H
  exact H

/-- a store to all of it leaves what it stores. -/
theorem step_store {Q : α → sProp 𝕄} (c : Dev nD) {s : Shape} {e : EltTy} {M : Memref sig .tc .vmem s e} {off : Fin s.rank → Nat} (h : off = fun _ => 0)
    {inb : ∀ a, off a + s.size a ≤ s.size a} {X w w' : s.Idx → Elt F e} (hw : w = w')
    {hx : (M.access (Rect.unit off s.size inb)).Stores Finset.univ} {hm : Finset.univ = Finset.univ ∨ ∀ a, (Rect.unit off s.size inb).stride a = 1}
    {k : PUnit → Prog (TpuEff nD τ sig (Elt F) Λ₀ .tc) α} :
    own c M fullShare X
      ⊢ iprop((own c M fullShare w' -∗ wp frame (wpE (defs₀ (F := F)) 𝒱₀ (c : Thread nD τ) none) Set.univ (k ⟨⟩) Q)
          -∗ wp frame (wpE (defs₀ (F := F)) 𝒱₀ (c : Thread nD τ) none) Set.univ (.op (.store M (Rect.unit off s.size inb) w Finset.univ hx hm) k) Q) := by
  subst hw
  iintro H Hk
  ihave H := (show own c M fullShare X ⊢ iprop(∃ f, ⌜M.view.read (Elt F) f = X⌝ ∗ ((M.access (Rect.unit off s.size inb)).loc (c : Thread nD τ) ↦[M.view.set]{fullShare} f)) from .rfl) $$ H
  icases H with ⟨%f, -, H⟩
  iapply (wp_store 𝒱₀ (c : Thread nD τ) none Set.univ (m := M) (r := Rect.unit off s.size inb) (w := w) (Mk := Finset.univ) (hx := hx) (hm := hm) (k := k)
    (S := M.view.set) (f := f) (View.set_slice_subset _ _)) $$ H
  iintro H
  iapply Hk
  iapply (show iprop(∃ f, ⌜M.view.read (Elt F) f = w⌝ ∗ ((M.access (Rect.unit off s.size inb)).loc (c : Thread nD τ) ↦[M.view.set]{fullShare} f)) ⊢ own c M fullShare w from .rfl)
  iexists _
  isplitr
  · ipureintro
    funext j
    have := View.read_slice_write_emb (Val := Elt F) (v := M.view) (Rect.unit off s.size inb) f w (M := Finset.univ) (x := j) (Finset.mem_univ j)
    rw [emb_zero h inb j] at this
    exact this
  iexact H

end Steps

/-! ## A buffer of four experts and its halves -/

/-- The two halves, lower first. -/
abbrev rHalf : Bool → Rect S4x512x1024 | false => rLo | true => rHi

theorem half_stride (t : Bool) (a) : (rHalf t).stride a = 1 := by cases t <;> rfl

theorem mem_rLo (i : S4x512x1024.Idx) : i ∈ rLo.set ↔ (i 0).val < 2 := by
  rw [Rect.mem_set_unit]
  constructor
  · intro h; exact (h 0).2
  · intro h a
    have h1 := (i 1).isLt; have h2 := (i 2).isLt
    fin_cases a
    · exact ⟨Nat.zero_le _, h⟩
    · exact ⟨Nat.zero_le _, by show (i 1).val < 0 + 512; simpa using h1⟩
    · exact ⟨Nat.zero_le _, by show (i 2).val < 0 + 1024; simpa using h2⟩

theorem mem_rHi (i : S4x512x1024.Idx) : i ∈ rHi.set ↔ 2 ≤ (i 0).val := by
  rw [Rect.mem_set_unit]
  constructor
  · intro h; exact (h 0).1
  · intro h a
    have h0 := (i 0).isLt; have h1 := (i 1).isLt; have h2 := (i 2).isLt
    fin_cases a
    · exact ⟨h, by show (i 0).val < 2 + 2; simpa using h0⟩
    · exact ⟨Nat.zero_le _, by show (i 1).val < 0 + 512; simpa using h1⟩
    · exact ⟨Nat.zero_le _, by show (i 2).val < 0 + 1024; simpa using h2⟩

theorem half_disjoint (t t' : Bool) (h : t ≠ t') : Disjoint (rHalf t).set (rHalf t').set := by
  have key : Disjoint rLo.set rHi.set := by
    rw [Finset.disjoint_left]; intro i h1 h2
    rw [mem_rLo] at h1; rw [mem_rHi] at h2; omega
  cases t <;> cases t'
  · exact absurd rfl h
  · exact key
  · exact key.symm
  · exact absurd rfl h

theorem half_cover : (Finset.univ : Finset Bool).biUnion (fun t => (rHalf t).set) = Finset.univ := by
  ext i; simp only [Finset.mem_biUnion, Finset.mem_univ, true_and, iff_true]
  rcases Nat.lt_or_ge (i 0).val 2 with h | h
  · exact ⟨false, (mem_rLo i).mpr h⟩
  · exact ⟨true, (mem_rHi i).mpr h⟩

theorem bigSep_bool (Φ : Bool → sProp 𝕄) : bigSep Finset.univ Φ = iprop(Φ false ∗ Φ true) :=
  bigSep_univ_eq_bigSepL [false, true] (by decide) (by decide) Φ

/-- Owning a buffer of four experts is owning its two halves. -/
theorem own_split (c : Dev nD) (M : Memref sig .tc .vmem S4x512x1024 .bf16) (q : PosShare TreeShare) (X : S4x512x1024.Idx → Elt F .bf16) :
    own c M q X ⊢ iprop(own c (lo M) q (fun j => X (rLo.emb j)) ∗ own c (hi M) q (fun j => X (rHi.emb j))) :=
  (owns_rects (c : Thread nD τ) M q rHalf half_stride half_disjoint half_cover X).trans (Entails.of_eq (bigSep_bool _))
theorem own_join (c : Dev nD) (M : Memref sig .tc .vmem S4x512x1024 .bf16) (q : PosShare TreeShare) (X : S4x512x1024.Idx → Elt F .bf16) :
    iprop(own c (lo M) q (fun j => X (rLo.emb j)) ∗ own c (hi M) q (fun j => X (rHi.emb j))) ⊢ own c M q X :=
  (Entails.of_eq (bigSep_bool (F := F) fun t => own c (M.slice (rHalf t) (half_stride t)) q fun j => X ((rHalf t).emb j)).symm).trans
    (owns_of_rects (c : Thread nD τ) M q rHalf half_stride half_disjoint half_cover X)

/-- The contents with lower half `A` and upper half `B`. -/
def both (A B : S2x512x1024.Idx → Elt F .bf16) : S4x512x1024.Idx → Elt F .bf16 := fun i =>
  if h : (i 0).val < 2 then A (fun a => ⟨(i a).val, by fin_cases a; exacts [h, (i 1).isLt, (i 2).isLt]⟩)
  else B (fun a => ⟨(i a).val - ![2, 0, 0] a, by
    have h0 := (i 0).isLt; have h1 := (i 1).isLt; have h2 := (i 2).isLt
    fin_cases a
    · show (i 0).val - 2 < 2
      have : (i 0).val < 4 := h0
      omega
    · exact h1
    · exact h2⟩)

theorem both_lo (A B : S2x512x1024.Idx → Elt F .bf16) : (fun j => both A B (rLo.emb j)) = A := by
  funext j
  have h : ((rLo.emb j) 0).val < 2 := (mem_rLo _).mp (by rw [← Rect.map_emb_univ]; exact Finset.mem_map_of_mem _ (Finset.mem_univ j))
  unfold both; rw [dif_pos h]
  congr 1; funext a; apply Fin.ext
  fin_cases a
  · show 0 + 1 * (j 0).val = (j 0).val; omega
  · show 0 + 1 * (j 1).val = (j 1).val; omega
  · show 0 + 1 * (j 2).val = (j 2).val; omega

theorem both_hi (A B : S2x512x1024.Idx → Elt F .bf16) : (fun j => both A B (rHi.emb j)) = B := by
  funext j
  have h : 2 ≤ ((rHi.emb j) 0).val := (mem_rHi _).mp (by rw [← Rect.map_emb_univ]; exact Finset.mem_map_of_mem _ (Finset.mem_univ j))
  unfold both; rw [dif_neg (by omega)]
  congr 1; funext a; apply Fin.ext
  fin_cases a
  · show 2 + 1 * (j 0).val - 2 = (j 0).val; omega
  · show 0 + 1 * (j 1).val - 0 = (j 1).val; omega
  · show 0 + 1 * (j 2).val - 0 = (j 2).val; omega

/-- Two halves at any contents make the whole buffer. -/
theorem own_both (c : Dev nD) (M : Memref sig .tc .vmem S4x512x1024 .bf16) (q : PosShare TreeShare) (A B : S2x512x1024.Idx → Elt F .bf16) :
    iprop(own c (lo M) q A ∗ own c (hi M) q B) ⊢ own c M q (both A B) := by
  have hA : own c (lo M) q A = own c (lo M) q (fun j => both A B (rLo.emb j)) := congrArg _ (both_lo A B).symm
  have hB : own c (hi M) q B = own c (hi M) q (fun j => both A B (rHi.emb j)) := congrArg _ (both_hi A B).symm
  exact (BIClass.sep_mono (Entails.of_eq hA) (Entails.of_eq hB)).trans (own_join c M q (both A B))

/-! ## Shares -/

theorem own_halves (c : Dev nD) {s : Shape} {e : EltTy} (M : Memref sig .tc .vmem s e) (q : PosShare TreeShare) (X : s.Idx → Elt F e) :
    own c M q X ⊢ iprop(own c M q.left X ∗ own c M q.right X) := (owns_halves (c : Thread nD τ) M q X).1
theorem own_whole (c : Dev nD) {s : Shape} {e : EltTy} (M : Memref sig .tc .vmem s e) (q : PosShare TreeShare) (X : s.Idx → Elt F e) :
    iprop(own c M q.left X ∗ own c M q.right X) ⊢ own c M q X := (owns_halves (c : Thread nD τ) M q X).2

/-- A memref owned outright is its share for the transfer after, its share for the transfer before and a share kept. -/
theorem own_thirds (c : Dev nD) {s : Shape} {e : EltTy} (M : Memref sig .tc .vmem s e) (X : s.Idx → Elt F e) :
    own c M fullShare X ⊢ iprop(own c M qA X ∗ own c M qB X ∗ own c M qC X) :=
  (own_halves c M fullShare X).trans (BIClass.sep_mono .rfl (own_halves c M _ X))
theorem own_of_thirds (c : Dev nD) {s : Shape} {e : EltTy} (M : Memref sig .tc .vmem s e) (X : s.Idx → Elt F e) :
    iprop(own c M qA X ∗ own c M qB X ∗ own c M qC X) ⊢ own c M fullShare X :=
  (BIClass.sep_mono .rfl (own_whole c M _ X)).trans (own_whole c M fullShare X)

end Cert.MoE

end
-- ==== Proof.Values.lean ====
/-
The values of a run: what the words and the registers of device `c` hold, and its output buffer after each of the
seven blocks it accumulates, in terms of the payloads of its program.
-/
module

public import proofs.«01_k».proof.Proof.Steps

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The words -/

/-- The device's own place on the ring, that of the device before, of the device after, and of the one across. -/
def mine (c : Dev nD) : BitVec 32 := Scalar.remsi (Scalar.divsi (Dev.word c) 1#32) 4#32
def left (c : Dev nD) : BitVec 32 := Scalar.remsi (Scalar.subi (Scalar.addi (mine c) 4#32) 1#32) 4#32
def right (c : Dev nD) : BitVec 32 := Scalar.remsi (Scalar.addi (mine c) 1#32) 4#32
def across (c : Dev nD) : BitVec 32 := Scalar.remsi (Scalar.addi (mine c) 2#32) 4#32

/-! ## The inputs as staged -/

def xs (c : Dev nD) : FVec F S2048x512 .f32 := iblk m c 0 t0_0
def rw (c : Dev nD) : FVec F S512x16 .f32 := iblk m c 1 t0_0
def ids (c : Dev nD) : IVec S2048x1 32 := iblk m c 2 t0_0
def shw (c : Dev nD) : FVec F S512x1024 .f32 := iblk m c 4 t0_0

/-! ## The registers -/

/-- Each token's expert, its gate, and the tokens rounded. -/
def ex (c : Dev nD) : IVec S2048x1 32 := k0_pay4 (F := F) (ids m c)
def gate (c : Dev nD) : FVec F S2048x1 .f32 := k0_pay5 (xs m c) (rw m c) (ids m c)
def xb (c : Dev nD) : FVec F S2048x512 .bf16 := k0_pay6 (xs m c)

/-! ## The output buffer -/

/-- The device's own four experts and the shared one; -/
def o1 (c : Dev nD) : FVec F S2048x1024 .f32 :=
  k0_pay11 (k0_pay8 (mine c) (ex m c) (gate m c) (xb m c) (k0_pay7 (mine c))) (k0_pay9 (wb m c)) (k0_pay10 (shw m c))
/-- then experts 0 and 1 of the device before and of the device after, then their experts 2 and 3, -/
def o2 (c : Dev nD) : FVec F S2048x1024 .f32 := k0_pay13 (k0_pay12 (left c) (ex m c) (gate m c) (xb m c)) (o1 m c) (wLo m (prv c))
def o3 (c : Dev nD) : FVec F S2048x1024 .f32 := k0_pay15 (k0_pay14 (right c) (ex m c) (gate m c) (xb m c)) (o2 m c) (wLo m (nxt c))
def o4 (c : Dev nD) : FVec F S2048x1024 .f32 := k0_pay17 (k0_pay16 (left c) (ex m c) (gate m c) (xb m c)) (o3 m c) (wHi m (prv c))
def o5 (c : Dev nD) : FVec F S2048x1024 .f32 := k0_pay19 (k0_pay18 (right c) (ex m c) (gate m c) (xb m c)) (o4 m c) (wHi m (nxt c))
/-- and the two halves of the device across, each by another way around. -/
def o6 (c : Dev nD) : FVec F S2048x1024 .f32 :=
  k0_pay21 (across c) (ex m c) (gate m c) (xb m c) (k0_pay20 (across c) (ex m c) (gate m c) (xb m c)) (o5 m c) (wLo m (prv (prv c)))
def outAt (c : Dev nD) : FVec F S2048x1024 .f32 :=
  k0_pay23 (ex m c) (gate m c) (xb m c) (k0_pay22 (across c) (ex m c) (gate m c) (xb m c)) (Scalar.muli (across c) 4#32) (o6 m c)
    (wHi m (nxt (nxt c)))

end Cert.MoE

end
-- ==== Proof.Parts.lean ====
/-
The body of the kernel at a device: each of the stretches its program is printed in, from what it needs to what it
leaves, and then the whole, from the launch's resources to the result.
-/
module

public import proofs.«01_k».proof.Proof.Values

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Memrefs of the staging buffers -/

abbrev stX : Memref sig .tc .vmem S2048x512 .f32 := Memref.whole cc0_stg0_0
abbrev stR : Memref sig .tc .vmem S512x16 .f32 := Memref.whole cc0_stg1_0
abbrev stI : Memref sig .tc .vmem S2048x1 .i32 := Memref.whole cc0_stg2_0
abbrev stW : Memref sig .tc .vmem S4x512x1024 .f32 := Memref.whole cc0_stg3_0
abbrev stS : Memref sig .tc .vmem S512x1024 .f32 := Memref.whole cc0_stg4_0
abbrev stO : Memref sig .tc .vmem S2048x1024 .f32 := Memref.whole cc0_stg5_0

theorem zero2 : (![0, 0] : Fin 2 → Nat) = fun _ => 0 := funext fun a => by fin_cases a <;> rfl
theorem zero3 : (![0, 0, 0] : Fin 3 → Nat) = fun _ => 0 := funext fun a => by fin_cases a <;> rfl

/-! ## What each transfer carries, named on both sides -/

theorem carry0 (c : Dev nD) : recvPay m (nxt c) 0 = own (nxt c) (lo lM) fullShare (wLo m c) := by
  show own (nxt c) (lo lM) fullShare (wLo m (prv (nxt c))) = _; rw [prv_nxt]
theorem carry1 (c : Dev nD) : recvPay m (nxt c) 1 = own (nxt c) (hi lM) fullShare (wHi m c) := by
  show own (nxt c) (hi lM) fullShare (wHi m (prv (nxt c))) = _; rw [prv_nxt]
theorem carry2 (c : Dev nD) : recvPay m (prv c) 2 = own (prv c) (lo rM) fullShare (wLo m c) := by
  show own (prv c) (lo rM) fullShare (wLo m (nxt (prv c))) = _; rw [nxt_prv]
theorem carry3 (c : Dev nD) : recvPay m (prv c) 3 = own (prv c) (hi rM) fullShare (wHi m c) := by
  show own (prv c) (hi rM) fullShare (wHi m (nxt (prv c))) = _; rw [nxt_prv]
theorem carry4 (c : Dev nD) : recvPay m (nxt c) 4 = own (nxt c) dlM fullShare (wLo m (prv c)) := by
  show own (nxt c) dlM fullShare (wLo m (prv (prv (nxt c)))) = _; rw [prv_nxt]
theorem carry5 (c : Dev nD) : recvPay m (prv c) 5 = own (prv c) drM fullShare (wHi m (nxt c)) := by
  show own (prv c) drM fullShare (wHi m (nxt (nxt (prv c)))) = _; rw [nxt_prv]

theorem wait_v (j : Fin 6) (c : Dev nD) {O : CellTallies nD τ sig Unit} (hj : j.val < 4) (hO : Above 2 O) :
    (levAts L lv : sProp 𝕄) ⊢ MayWait (c : Thread nD τ) (.dma (vS j)) () O :=
  mayWait_of_above hO c _ (by rw [lv_v, if_pos hj])
theorem wait_zero (j : Fin 6) (c : Dev nD) : (levAts L lv : sProp 𝕄) ⊢ MayWait (c : Thread nD τ) (.dma (vS j)) () 0 := by
  rw [MayWait_zero]; iintro -; iempintro

section Parts

variable (K : Dev nD × CK → ℕ) (c : Dev nD)

/-- Signals to both neighbours, the lower half of the weights rounded into the send buffer, and the wait for both signals. -/
theorem part1 {Q : (Σ' (d0 : Dev nD) (v2 : BitVec 32) (v5 : BitVec 32) (v7 : BitVec 32), BitVec 32) → sProp 𝕄} :
    iprop(records m K
    ∗ levAts L lv
    ∗ owing c (O₀ c)
    ∗ dutyTok ER (barCell (nxt c)) 0 false
    ∗ dutyTok ER (barCell (prv c)) 0 true
    ∗ barFrom c
    ∗ barBack c
    ∗ cred (tallyAt (barCell c) () 2)
    ∗ atPos ER (barCell c) 0 ∅ 0
    ∗ own c stW fullShare (ew m c)
    ∗ (∃ Y, own c (lo sM) fullShare Y)
    ∗ ((owing c (Ox c)
        ∗ semVal (barCell c) 0
        ∗ barFrom (prv c)
        ∗ barBack (nxt c)
        ∗ own c stW fullShare (ew m c)
        ∗ own c (lo sM) fullShare (wLo m c)) -∗ Q ⟨c, mine c, left c, right c, across c⟩))
      ⊢ wp frame (wpE (defs₀ (F := F)) 𝒱₀ (c : Thread nD τ) none) Set.univ
          (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6) Q := by
  simp only [k0_part1_eq_skeleton]; unfold k0_part1_skel
  simp only [semSignalWord, semWaitWord, Prog.lift, Prog.bind_op, Prog.bind_ret, Prog.pure_eq_ret, wp_deviceId]
  iintro ⟨#HR, #HL, HO, Ht1, Ht2, HF, HB, Hc, Ha, HW, ⟨%Y, HS⟩, Hk⟩
  iapply (step_signal m K c (prv c) _ (dev1_eq c) true (Ob c) rfl) $$ [HO Ht2 HB]
  · isplitr; · iexact HR
    isplitl [HO]; · unfold O₀; iexact HO
    isplitl [Ht2]; · iexact Ht2
    rw [payload_bar_true, nxt_prv]; iexact HB
  iintro HO
  iapply (step_signal m K c (nxt c) _ (dev2_eq c) false (Ox c) rfl) $$ [HO Ht1 HF]
  · isplitr; · iexact HR
    isplitl [HO]; · unfold Ob; iexact HO
    isplitl [Ht1]; · iexact Ht1
    rw [payload_bar_false, prv_nxt]; iexact HF
  iintro HO
  iapply (step_loadPart c) $$ HW; iintro HW
  iapply (step_loadSlice c (hr := fun _ => rfl)) $$ HS; iintro HS
  iapply (step_storeSlice c (hr := fun _ => rfl) (pay1_eq m c)) $$ HS; iintro HS
  iapply (step_waitBar m K c rfl) $$ [HO Hc Ha]
  · isplitr; · iexact HR
    isplitr; · iexact HL
    isplitl [HO]; · iexact HO
    isplitl [Hc]; · iexact Hc
    iexact Ha
  iintro ⟨HO, Hz, HF, HB⟩
  rw [show (⟨c, Scalar.remsi (Scalar.divsi c.word 1#32) 4#32,
        Scalar.remsi (Scalar.subi (Scalar.addi (Scalar.remsi (Scalar.divsi c.word 1#32) 4#32) 4#32) 1#32) 4#32,
        Scalar.remsi (Scalar.addi (Scalar.remsi (Scalar.divsi c.word 1#32) 4#32) 1#32) 4#32,
        Scalar.remsi (Scalar.addi (Scalar.remsi (Scalar.divsi c.word 1#32) 4#32) 2#32) 4#32⟩ :
      Σ' (d0 : Dev nD) (v2 : BitVec 32) (v5 : BitVec 32) (v7 : BitVec 32), BitVec 32) = ⟨c, mine c, left c, right c, across c⟩ from rfl]
  rw [wp_ret]; imodintro
  iapply Hk
  isplitl [HO]; · iexact HO
  isplitl [Hz]; · iexact Hz
  isplitl [HF]; · iexact HF
  isplitl [HB]; · iexact HB
  isplitl [HW]; · iexact HW
  iexact HS

/-- Transfers 0 and 2 of the lower half, the upper half rounded, and transfer 1. -/
theorem part2 {Q : PUnit → sProp 𝕄} :
    iprop(records m K
    ∗ owing c (Ox c)
    ∗ own c (lo sM) fullShare (wLo m c)
    ∗ (∃ Y, own (nxt c) (lo lM) fullShare Y)
    ∗ (∃ Y, own (prv c) (lo rM) fullShare Y)
    ∗ (∃ Y, own (nxt c) (hi lM) fullShare Y)
    ∗ dutyTok ER (sCell 0 c) 0 false
    ∗ dutyTok ER (vCell 0 (nxt c)) 0 false
    ∗ dutyTok ER (sCell 2 c) 0 false
    ∗ dutyTok ER (vCell 2 (prv c)) 0 false
    ∗ dutyTok ER (sCell 1 c) 0 false
    ∗ dutyTok ER (vCell 1 (nxt c)) 0 false
    ∗ own c stW fullShare (ew m c)
    ∗ (∃ Y, own c (hi sM) fullShare Y)
    ∗ ((owing c (O3 c)
        ∗ cred (tallyAt (sCell 0 c) () N)
        ∗ cred (tallyAt (sCell 2 c) () N)
        ∗ cred (tallyAt (sCell 1 c) () N)
        ∗ own c (lo sM) qC (wLo m c)
        ∗ own c stW fullShare (ew m c)
        ∗ own c (hi sM) qB (wHi m c)
        ∗ own c (hi sM) qC (wHi m c)) -∗ Q ⟨⟩))
      ⊢ wp frame (wpE (defs₀ (F := F)) 𝒱₀ (c : Thread nD τ) none) Set.univ
          (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 c (left c) (right c)) Q := by
  simp only [k0_part2_eq_skeleton]; unfold k0_part2_skel
  simp only [semSignalWord, semWaitWord, Prog.lift, Prog.bind_op, Prog.bind_ret, Prog.pure_eq_ret, wp_deviceId]
  iintro ⟨#HR, HO, HS, Hd0, Hd2, Hd1, Hs0, Hv0, Hs2, Hv2, Hs1, Hv1, HW, ⟨%Y, HH⟩, Hk⟩
  ihave HS := (own_thirds c (lo sM) (wLo m c)) $$ HS
  icases HS with ⟨HSa, HSb, HSc⟩
  iapply (step_send m K 0 c (nxt c) _ (dev3_eq c) (hs := rfl) (hv := carry0 m c) rfl rfl (O := O1 c)) $$ [HSa Hd0 HO Hs0 Hv0]
  · isplitr; · iexact HR
    isplitl [HSa]; · iexact HSa
    isplitl [Hd0]; · iexact Hd0
    isplitl [HO]; · unfold Ox; iexact HO
    isplitl [Hs0]; · iexact Hs0
    iexact Hv0
  iintro ⟨Hc0, HO⟩
  iapply (step_send m K 2 c (prv c) _ (dev4_eq c) (hs := rfl) (hv := carry2 m c) rfl rfl (O := O2 c)) $$ [HSb Hd2 HO Hs2 Hv2]
  · isplitr; · iexact HR
    isplitl [HSb]; · iexact HSb
    isplitl [Hd2]; · iexact Hd2
    isplitl [HO]; · unfold O1; iexact HO
    isplitl [Hs2]; · iexact Hs2
    iexact Hv2
  iintro ⟨Hc2, HO⟩
  iapply (step_loadPart c) $$ HW; iintro HW
  iapply (step_loadSlice c (hr := fun _ => rfl)) $$ HH; iintro HH
  iapply (step_storeSlice c (hr := fun _ => rfl) (pay2_eq m c)) $$ HH; iintro HH
  ihave HH := (own_thirds c (hi sM) (wHi m c)) $$ HH
  icases HH with ⟨HHa, HHb, HHc⟩
  iapply (step_send m K 1 c (nxt c) _ (dev5_eq c) (hs := rfl) (hv := carry1 m c) rfl rfl (O := O3 c)) $$ [HHa Hd1 HO Hs1 Hv1]
  · isplitr; · iexact HR
    isplitl [HHa]; · iexact HHa
    isplitl [Hd1]; · iexact Hd1
    isplitl [HO]; · unfold O2; iexact HO
    isplitl [Hs1]; · iexact Hs1
    iexact Hv1
  iintro ⟨Hc1, HO⟩
  rw [wp_ret]; imodintro
  iapply Hk
  isplitl [HO]; · iexact HO
  isplitl [Hc0]; · iexact Hc0
  isplitl [Hc2]; · iexact Hc2
  isplitl [Hc1]; · iexact Hc1
  isplitl [HSc]; · iexact HSc
  isplitl [HW]; · iexact HW
  isplitl [HHb]; · iexact HHb
  iexact HHc

/-- Transfer 3, and the registers. -/
theorem part3 {Q : (Σ' (v74 : IVec S2048x1 32) (v81 : FVec F S2048x1 .f32) (v82 : FVec F S2048x512 .bf16), IVec S2048x1 32) → sProp 𝕄} :
    iprop(records m K
    ∗ owing c (O3 c)
    ∗ own c (hi sM) qB (wHi m c)
    ∗ (∃ Y, own (prv c) (hi rM) fullShare Y)
    ∗ dutyTok ER (sCell 3 c) 0 false
    ∗ dutyTok ER (vCell 3 (prv c)) 0 false
    ∗ own c stX fullShare (xs m c)
    ∗ own c stR fullShare (rw m c)
    ∗ own c stI fullShare (ids m c)
    ∗ ((owing c (O4 c)
        ∗ cred (tallyAt (sCell 3 c) () N)
        ∗ own c stX fullShare (xs m c)
        ∗ own c stR fullShare (rw m c)
        ∗ own c stI fullShare (ids m c)) -∗ Q ⟨ex m c, gate m c, xb m c, k0_pay7 (mine c)⟩))
      ⊢ wp frame (wpE (defs₀ (F := F)) 𝒱₀ (c : Thread nD τ) none) Set.univ
          (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 c (mine c) (left c)) Q := by
  simp only [k0_part3_eq_skeleton]; unfold k0_part3_skel
  simp only [semSignalWord, semWaitWord, Prog.lift, Prog.bind_op, Prog.bind_ret, Prog.pure_eq_ret, wp_deviceId]
  iintro ⟨#HR, HO, HS, Hd, Hs, Hv, HX, HW, HI, Hk⟩
  iapply (step_send m K 3 c (prv c) _ (dev6_eq c) (hs := rfl) (hv := carry3 m c) rfl rfl (O := O4 c)) $$ [HS Hd HO Hs Hv]
  · isplitr; · iexact HR
    isplitl [HS]; · iexact HS
    isplitl [Hd]; · iexact Hd
    isplitl [HO]; · unfold O3; iexact HO
    isplitl [Hs]; · iexact Hs
    iexact Hv
  iintro ⟨Hc, HO⟩
  iapply (step_load c zero2) $$ HX; iintro HX
  iapply (step_load c zero2) $$ HW; iintro HW
  iapply (step_load c zero2) $$ HI; iintro HI
  rw [show (⟨k0_pay4 (F := F) (ids m c), k0_pay5 (xs m c) (rw m c) (ids m c), k0_pay6 (xs m c), k0_pay7 (mine c)⟩ :
      Σ' (v74 : IVec S2048x1 32) (v81 : FVec F S2048x1 .f32) (v82 : FVec F S2048x512 .bf16), IVec S2048x1 32) = ⟨ex m c, gate m c, xb m c, k0_pay7 (mine c)⟩ from rfl]
  rw [wp_ret]; imodintro
  iapply Hk
  isplitl [HO]; · iexact HO
  isplitl [Hc]; · iexact Hc
  isplitl [HX]; · iexact HX
  isplitl [HW]; · iexact HW
  iexact HI

/-- The whole send buffer and the shared weights, read. -/
theorem part4 {Q : (Σ' (v124 : FVec F S2048x2560 .bf16) (v126 : FVec F S2048x1024 .bf16), FVec F S512x1024 .f32) → sProp 𝕄} :
    iprop(own c (lo sM) qC (wLo m c)
    ∗ own c (hi sM) qC (wHi m c)
    ∗ own c stS fullShare (shw m c)
    ∗ ((own c (lo sM) qC (wLo m c)
        ∗ own c (hi sM) qC (wHi m c)
        ∗ own c stS fullShare (shw m c)) -∗ Q ⟨k0_pay8 (mine c) (ex m c) (gate m c) (xb m c) (k0_pay7 (mine c)), k0_pay9 (wb m c), k0_pay10 (shw m c)⟩))
      ⊢ wp frame (wpE (defs₀ (F := F)) 𝒱₀ (c : Thread nD τ) none) Set.univ
          (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (mine c) (ex m c) (gate m c) (xb m c) (k0_pay7 (mine c))) Q := by
  simp only [k0_part4_eq_skeleton]; unfold k0_part4_skel
  simp only [semSignalWord, semWaitWord, Prog.lift, Prog.bind_op, Prog.bind_ret, Prog.pure_eq_ret, wp_deviceId]
  iintro ⟨HA, HB, HS, Hk⟩
  ihave HM := (show iprop(own c (lo sM) qC (wLo m c) ∗ own c (hi sM) qC (wHi m c)) ⊢ own c sM qC (wb m c) from own_join c sM qC (wb m c)) $$ [HA HB]
  · isplitl [HA]; · iexact HA
    iexact HB
  iapply (step_load c zero3) $$ HM; iintro HM
  iapply (step_load c zero2) $$ HS; iintro HS
  ihave HM := (show own c sM qC (wb m c) ⊢ iprop(own c (lo sM) qC (wLo m c) ∗ own c (hi sM) qC (wHi m c)) from own_split c sM qC (wb m c)) $$ HM
  icases HM with ⟨HA, HB⟩
  rw [wp_ret]; imodintro
  iapply Hk
  isplitl [HA]; · iexact HA
  isplitl [HB]; · iexact HB
  iexact HS

/-- The own experts and the shared one into the output buffer, and the wait for transfer 0 to land. -/
theorem part5 {Q : FVec F S2048x1024 .bf16 → sProp 𝕄} :
    iprop(records m K
    ∗ levAts L lv
    ∗ owing c (O4 c)
    ∗ cred (tallyAt (vCell 0 c) () N)
    ∗ atPos ER (vCell 0 c) 0 ∅ 0
    ∗ (∃ Y, own c stO fullShare Y)
    ∗ ((owing c (O4 c)
        ∗ semVal (vCell 0 c) 0
        ∗ own c (lo lM) fullShare (wLo m (prv c))
        ∗ own c stO fullShare (o1 m c)) -∗ Q (k0_pay12 (left c) (ex m c) (gate m c) (xb m c))))
      ⊢ wp frame (wpE (defs₀ (F := F)) 𝒱₀ (c : Thread nD τ) none) Set.univ
          (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (left c) (right c) (ex m c) (gate m c) (xb m c) (k0_pay8 (mine c) (ex m c) (gate m c) (xb m c) (k0_pay7 (mine c))) (k0_pay9 (wb m c)) (k0_pay10 (shw m c))) Q := by
  simp only [k0_part5_eq_skeleton]; unfold k0_part5_skel
  simp only [semSignalWord, semWaitWord, Prog.lift, Prog.bind_op, Prog.bind_ret, Prog.pure_eq_ret, wp_deviceId]
  iintro ⟨#HR, #HL, HO, Hc, Ha, ⟨%Y, HX⟩, Hk⟩
  iapply (step_load c zero2) $$ HX; iintro HX
  iapply (step_store c zero2 (w' := o1 m c) rfl) $$ HX; iintro HX
  iapply (step_waitV m K 0 c rfl (O := O4 c) (wait_v 0 c (by decide) (above_O4 c))) $$ [HO Hc Ha]
  · isplitr; · iexact HR
    isplitr; · iexact HL
    isplitl [HO]; · iexact HO
    isplitl [Hc]; · iexact Hc
    iexact Ha
  iintro ⟨HO, Hz, HP⟩
  ihave HP := (show recvPay m c 0 ⊢ own c (lo lM) fullShare (wLo m (prv c)) from .rfl) $$ HP
  rw [wp_ret]; imodintro
  iapply Hk
  isplitl [HO]; · iexact HO
  isplitl [Hz]; · iexact Hz
  isplitl [HP]; · iexact HP
  iexact HX

/-- Transfer 4, and the block of experts 0 and 1 of the device before. -/
theorem part6 {Q : FVec F S2048x1024 .bf16 → sProp 𝕄} :
    iprop(records m K
    ∗ owing c (O4 c)
    ∗ own c (lo lM) fullShare (wLo m (prv c))
    ∗ (∃ Y, own (nxt c) dlM fullShare Y)
    ∗ dutyTok ER (sCell 4 c) 0 false
    ∗ dutyTok ER (vCell 4 (nxt c)) 0 false
    ∗ own c stO fullShare (o1 m c)
    ∗ ((owing c (O5 c)
        ∗ cred (tallyAt (sCell 4 c) () N)
        ∗ own c (lo lM) fullShare.right (wLo m (prv c))
        ∗ own c stO fullShare (o2 m c)) -∗ Q (k0_pay14 (right c) (ex m c) (gate m c) (xb m c))))
      ⊢ wp frame (wpE (defs₀ (F := F)) 𝒱₀ (c : Thread nD τ) none) Set.univ
          (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 c (left c) (right c) (ex m c) (gate m c) (xb m c) (k0_pay12 (left c) (ex m c) (gate m c) (xb m c))) Q := by
  simp only [k0_part6_eq_skeleton]; unfold k0_part6_skel
  simp only [semSignalWord, semWaitWord, Prog.lift, Prog.bind_op, Prog.bind_ret, Prog.pure_eq_ret, wp_deviceId]
  iintro ⟨#HR, HO, HP, Hd, Hs, Hv, HX, Hk⟩
  ihave HP := (own_halves c (lo lM) fullShare (wLo m (prv c))) $$ HP
  icases HP with ⟨HPa, HP⟩
  iapply (step_send m K 4 c (nxt c) _ (dev7_eq c) (hs := rfl) (hv := carry4 m c) rfl rfl (O := O5 c)) $$ [HPa Hd HO Hs Hv]
  · isplitr; · iexact HR
    isplitl [HPa]; · iexact HPa
    isplitl [Hd]; · iexact Hd
    isplitl [HO]; · unfold O4; iexact HO
    isplitl [Hs]; · iexact Hs
    iexact Hv
  iintro ⟨Hc, HO⟩
  iapply (step_load c zero2) $$ HX; iintro HX
  iapply (step_loadSlice c (hr := fun _ => rfl)) $$ HP; iintro HP
  iapply (step_load c zero2) $$ HX; iintro HX
  iapply (step_store c zero2 (w' := o2 m c) rfl) $$ HX; iintro HX
  rw [wp_ret]; imodintro
  iapply Hk
  isplitl [HO]; · iexact HO
  isplitl [Hc]; · iexact Hc
  isplitl [HP]; · iexact HP
  iexact HX

/-- The wait for transfer 2 to land, and the block of experts 0 and 1 of the device after. -/
theorem part7 {Q : (Σ' (v228 : FVec F S2048x1024 .bf16), BitVec 32) → sProp 𝕄} :
    iprop(records m K
    ∗ levAts L lv
    ∗ owing c (O5 c)
    ∗ cred (tallyAt (vCell 2 c) () N)
    ∗ atPos ER (vCell 2 c) 0 ∅ 0
    ∗ own c stO fullShare (o2 m c)
    ∗ ((owing c (O5 c)
        ∗ semVal (vCell 2 c) 0
        ∗ own c (lo rM) fullShare (wLo m (nxt c))
        ∗ own c stO fullShare (o3 m c)) -∗ Q ⟨k0_pay16 (left c) (ex m c) (gate m c) (xb m c), Scalar.muli (right c) 1#32⟩))
      ⊢ wp frame (wpE (defs₀ (F := F)) 𝒱₀ (c : Thread nD τ) none) Set.univ
          (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (left c) (right c) (ex m c) (gate m c) (xb m c) (k0_pay14 (right c) (ex m c) (gate m c) (xb m c))) Q := by
  simp only [k0_part7_eq_skeleton]; unfold k0_part7_skel
  simp only [semSignalWord, semWaitWord, Prog.lift, Prog.bind_op, Prog.bind_ret, Prog.pure_eq_ret, wp_deviceId]
  iintro ⟨#HR, #HL, HO, Hc, Ha, HX, Hk⟩
  iapply (step_waitV m K 2 c rfl (O := O5 c) (wait_v 2 c (by decide) (above_O5 c))) $$ [HO Hc Ha]
  · isplitr; · iexact HR
    isplitr; · iexact HL
    isplitl [HO]; · iexact HO
    isplitl [Hc]; · iexact Hc
    iexact Ha
  iintro ⟨HO, Hz, HP⟩
  ihave HP := (show recvPay m c 2 ⊢ own c (lo rM) fullShare (wLo m (nxt c)) from .rfl) $$ HP
  iapply (step_load c zero2) $$ HX; iintro HX
  iapply (step_loadSlice c (hr := fun _ => rfl)) $$ HP; iintro HP
  iapply (step_load c zero2) $$ HX; iintro HX
  iapply (step_store c zero2 (w' := o3 m c) rfl) $$ HX; iintro HX
  rw [wp_ret]; imodintro
  iapply Hk
  isplitl [HO]; · iexact HO
  isplitl [Hz]; · iexact Hz
  isplitl [HP]; · iexact HP
  iexact HX

/-- The wait for transfer 1 to land, and the block of experts 2 and 3 of the device before. -/
theorem part8 {Q : FVec F S2048x1024 .bf16 → sProp 𝕄} :
    iprop(records m K
    ∗ levAts L lv
    ∗ owing c (O5 c)
    ∗ cred (tallyAt (vCell 1 c) () N)
    ∗ atPos ER (vCell 1 c) 0 ∅ 0
    ∗ own c stO fullShare (o3 m c)
    ∗ ((owing c (O5 c)
        ∗ semVal (vCell 1 c) 0
        ∗ own c (hi lM) fullShare (wHi m (prv c))
        ∗ own c stO fullShare (o4 m c)) -∗ Q (k0_pay18 (right c) (ex m c) (gate m c) (xb m c))))
      ⊢ wp frame (wpE (defs₀ (F := F)) 𝒱₀ (c : Thread nD τ) none) Set.univ
          (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (right c) (ex m c) (gate m c) (xb m c) (k0_pay16 (left c) (ex m c) (gate m c) (xb m c)) (Scalar.muli (right c) 1#32)) Q := by
  simp only [k0_part8_eq_skeleton]; unfold k0_part8_skel
  simp only [semSignalWord, semWaitWord, Prog.lift, Prog.bind_op, Prog.bind_ret, Prog.pure_eq_ret, wp_deviceId]
  iintro ⟨#HR, #HL, HO, Hc, Ha, HX, Hk⟩
  iapply (step_waitV m K 1 c rfl (O := O5 c) (wait_v 1 c (by decide) (above_O5 c))) $$ [HO Hc Ha]
  · isplitr; · iexact HR
    isplitr; · iexact HL
    isplitl [HO]; · iexact HO
    isplitl [Hc]; · iexact Hc
    iexact Ha
  iintro ⟨HO, Hz, HP⟩
  ihave HP := (show recvPay m c 1 ⊢ own c (hi lM) fullShare (wHi m (prv c)) from .rfl) $$ HP
  iapply (step_load c zero2) $$ HX; iintro HX
  iapply (step_loadSlice c (hr := fun _ => rfl)) $$ HP; iintro HP
  iapply (step_load c zero2) $$ HX; iintro HX
  iapply (step_store c zero2 (w' := o4 m c) rfl) $$ HX; iintro HX
  rw [wp_ret]; imodintro
  iapply Hk
  isplitl [HO]; · iexact HO
  isplitl [Hz]; · iexact Hz
  isplitl [HP]; · iexact HP
  iexact HX

/-- The wait for transfer 3 to land, transfer 5, and the block of experts 2 and 3 of the device after. -/
theorem part9 {Q : FVec F S2048x512 .bf16 → sProp 𝕄} :
    iprop(records m K
    ∗ levAts L lv
    ∗ owing c (O5 c)
    ∗ cred (tallyAt (vCell 3 c) () N)
    ∗ atPos ER (vCell 3 c) 0 ∅ 0
    ∗ (∃ Y, own (prv c) drM fullShare Y)
    ∗ dutyTok ER (sCell 5 c) 0 false
    ∗ dutyTok ER (vCell 5 (prv c)) 0 false
    ∗ own c stO fullShare (o4 m c)
    ∗ ((owing c 0
        ∗ semVal (vCell 3 c) 0
        ∗ cred (tallyAt (sCell 5 c) () N)
        ∗ own c (hi rM) fullShare.right (wHi m (nxt c))
        ∗ own c stO fullShare (o5 m c)) -∗ Q (k0_pay20 (across c) (ex m c) (gate m c) (xb m c))))
      ⊢ wp frame (wpE (defs₀ (F := F)) 𝒱₀ (c : Thread nD τ) none) Set.univ
          (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 c (left c) (across c) (ex m c) (gate m c) (xb m c) (k0_pay18 (right c) (ex m c) (gate m c) (xb m c))) Q := by
  simp only [k0_part9_eq_skeleton]; unfold k0_part9_skel
  simp only [semSignalWord, semWaitWord, Prog.lift, Prog.bind_op, Prog.bind_ret, Prog.pure_eq_ret, wp_deviceId]
  iintro ⟨#HR, #HL, HO, Hc, Ha, Hd, Hs, Hv, HX, Hk⟩
  iapply (step_waitV m K 3 c rfl (O := O5 c) (wait_v 3 c (by decide) (above_O5 c))) $$ [HO Hc Ha]
  · isplitr; · iexact HR
    isplitr; · iexact HL
    isplitl [HO]; · iexact HO
    isplitl [Hc]; · iexact Hc
    iexact Ha
  iintro ⟨HO, Hz, HP⟩
  ihave HP := (show recvPay m c 3 ⊢ own c (hi rM) fullShare (wHi m (nxt c)) from .rfl) $$ HP
  ihave HP := (own_halves c (hi rM) fullShare (wHi m (nxt c))) $$ HP
  icases HP with ⟨HPa, HP⟩
  iapply (step_send m K 5 c (prv c) _ (dev8_eq c) (hs := rfl) (hv := carry5 m c) rfl rfl (O := 0)) $$ [HPa Hd HO Hs Hv]
  · isplitr; · iexact HR
    isplitl [HPa]; · iexact HPa
    isplitl [Hd]; · iexact Hd
    isplitl [HO]; · rw [zero_add]; unfold O5; iexact HO
    isplitl [Hs]; · iexact Hs
    iexact Hv
  iintro ⟨Hc, HO⟩
  iapply (step_load c zero2) $$ HX; iintro HX
  iapply (step_loadSlice c (hr := fun _ => rfl)) $$ HP; iintro HP
  iapply (step_load c zero2) $$ HX; iintro HX
  iapply (step_store c zero2 (w' := o5 m c) rfl) $$ HX; iintro HX
  rw [wp_ret]; imodintro
  iapply Hk
  isplitl [HO]; · iexact HO
  isplitl [Hz]; · iexact Hz
  isplitl [Hc]; · iexact Hc
  isplitl [HP]; · iexact HP
  iexact HX

/-- The wait for transfer 4 to land, and the block of experts 0 and 1 of the device across. -/
theorem part10 {Q : (Σ' (v325 : FVec F S2048x512 .bf16), BitVec 32) → sProp 𝕄} :
    iprop(records m K
    ∗ levAts L lv
    ∗ owing c 0
    ∗ cred (tallyAt (vCell 4 c) () N)
    ∗ atPos ER (vCell 4 c) 0 ∅ 0
    ∗ own c stO fullShare (o5 m c)
    ∗ ((owing c 0
        ∗ semVal (vCell 4 c) 0
        ∗ own c dlM fullShare (wLo m (prv (prv c)))
        ∗ own c stO fullShare (o6 m c)) -∗ Q ⟨k0_pay22 (across c) (ex m c) (gate m c) (xb m c), Scalar.muli (across c) 4#32⟩))
      ⊢ wp frame (wpE (defs₀ (F := F)) 𝒱₀ (c : Thread nD τ) none) Set.univ
          (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (right c) (across c) (ex m c) (gate m c) (xb m c) (k0_pay20 (across c) (ex m c) (gate m c) (xb m c))) Q := by
  simp only [k0_part10_eq_skeleton]; unfold k0_part10_skel
  simp only [semSignalWord, semWaitWord, Prog.lift, Prog.bind_op, Prog.bind_ret, Prog.pure_eq_ret, wp_deviceId]
  iintro ⟨#HR, #HL, HO, Hc, Ha, HX, Hk⟩
  iapply (step_waitV m K 4 c rfl (O := 0) (wait_zero 4 c)) $$ [HO Hc Ha]
  · isplitr; · iexact HR
    isplitr; · iexact HL
    isplitl [HO]; · iexact HO
    isplitl [Hc]; · iexact Hc
    iexact Ha
  iintro ⟨HO, Hz, HP⟩
  ihave HP := (show recvPay m c 4 ⊢ own c dlM fullShare (wLo m (prv (prv c))) from .rfl) $$ HP
  iapply (step_load c zero2) $$ HX; iintro HX
  iapply (step_load c zero3) $$ HP; iintro HP
  iapply (step_load c zero2) $$ HX; iintro HX
  iapply (step_store c zero2 (w' := o6 m c) rfl) $$ HX; iintro HX
  rw [wp_ret]; imodintro
  iapply Hk
  isplitl [HO]; · iexact HO
  isplitl [Hz]; · iexact Hz
  isplitl [HP]; · iexact HP
  iexact HX

/-- The wait for transfer 5 to land, the block of experts 2 and 3 of the device across, and the wait for transfer 0 to have left. -/
theorem part11 {Q : PUnit → sProp 𝕄} :
    iprop(records m K
    ∗ levAts L lv
    ∗ owing c 0
    ∗ cred (tallyAt (vCell 5 c) () N)
    ∗ atPos ER (vCell 5 c) 0 ∅ 0
    ∗ cred (tallyAt (sCell 0 c) () N)
    ∗ atPos ER (sCell 0 c) 0 ∅ 0
    ∗ own c stO fullShare (o6 m c)
    ∗ ((owing c 0
        ∗ semVal (vCell 5 c) 0
        ∗ semVal (sCell 0 c) 0
        ∗ own c drM fullShare (wHi m (nxt (nxt c)))
        ∗ own c (lo sM) qA (wLo m c)
        ∗ own c stO fullShare (outAt m c)) -∗ Q ⟨⟩))
      ⊢ wp frame (wpE (defs₀ (F := F)) 𝒱₀ (c : Thread nD τ) none) Set.univ
          (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (left c) (ex m c) (gate m c) (xb m c) (k0_pay22 (across c) (ex m c) (gate m c) (xb m c)) (Scalar.muli (across c) 4#32)) Q := by
  simp only [k0_part11_eq_skeleton]; unfold k0_part11_skel
  simp only [semSignalWord, semWaitWord, Prog.lift, Prog.bind_op, Prog.bind_ret, Prog.pure_eq_ret, wp_deviceId]
  iintro ⟨#HR, #HL, HO, Hc, Ha, Hcs, Has, HX, Hk⟩
  iapply (step_waitV m K 5 c rfl (O := 0) (wait_zero 5 c)) $$ [HO Hc Ha]
  · isplitr; · iexact HR
    isplitr; · iexact HL
    isplitl [HO]; · iexact HO
    isplitl [Hc]; · iexact Hc
    iexact Ha
  iintro ⟨HO, Hz, HP⟩
  ihave HP := (show recvPay m c 5 ⊢ own c drM fullShare (wHi m (nxt (nxt c))) from .rfl) $$ HP
  iapply (step_load c zero2) $$ HX; iintro HX
  iapply (step_load c zero3) $$ HP; iintro HP
  iapply (step_load c zero2) $$ HX; iintro HX
  iapply (step_store c zero2 (w' := outAt m c) rfl) $$ HX; iintro HX
  iapply (step_waitS m K 0 c rfl) $$ [HO Hcs Has]
  · isplitr; · iexact HR
    isplitl [HO]; · iexact HO
    isplitl [Hcs]; · iexact Hcs
    iexact Has
  iintro ⟨HO, Hzs, HS⟩
  ihave HS := (show sendPay m c 0 ⊢ own c (lo sM) qA (wLo m c) from .rfl) $$ HS
  rw [wp_ret]; imodintro
  iapply Hk
  isplitl [HO]; · iexact HO
  isplitl [Hz]; · iexact Hz
  isplitl [Hzs]; · iexact Hzs
  isplitl [HP]; · iexact HP
  isplitl [HS]; · iexact HS
  iexact HX

end Parts

end Cert.MoE

end
-- ==== Proof.Body.lean ====
/-
The whole body of the kernel at a device, from the launch's resources to the result, and the data the pipeline's
launch takes of it.
-/
module

public import proofs.«01_k».proof.Proof.Parts

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Body

variable (c : Dev nD)

theorem some_split (M : Memref sig .tc .vmem S4x512x1024 .bf16) :
    (iprop(∃ f, own (F := F) c M fullShare f) : sProp 𝕄) ⊢ iprop((∃ f, own c (lo M) fullShare f) ∗ ∃ f, own c (hi M) fullShare f) := by
  iintro ⟨%f, H⟩
  ihave H := (own_split c M fullShare f) $$ H
  icases H with ⟨H1, H2⟩
  isplitl [H1]
  · iexists _; iexact H1
  · iexists _; iexact H2

/-! ## What a device starts and ends with -/

/-- The duties the device performs: a signal to each neighbour, and each transfer's leaving and landing. -/
def payToks : sProp 𝕄 :=
  iprop(dutyTok ER (barCell (nxt c)) 0 false ∗ dutyTok ER (barCell (prv c)) 0 true
    ∗ dutyTok ER (sCell 0 c) 0 false ∗ dutyTok ER (sCell 1 c) 0 false ∗ dutyTok ER (sCell 2 c) 0 false
    ∗ dutyTok ER (sCell 3 c) 0 false ∗ dutyTok ER (sCell 4 c) 0 false ∗ dutyTok ER (sCell 5 c) 0 false
    ∗ dutyTok ER (vCell 0 (nxt c)) 0 false ∗ dutyTok ER (vCell 1 (nxt c)) 0 false ∗ dutyTok ER (vCell 2 (prv c)) 0 false
    ∗ dutyTok ER (vCell 3 (prv c)) 0 false ∗ dutyTok ER (vCell 4 (nxt c)) 0 false ∗ dutyTok ER (vCell 5 (prv c)) 0 false)
/-- The device's own thirteen cells, each at the start of its round. -/
def places : sProp 𝕄 :=
  iprop(atPos ER (barCell c) 0 ∅ 0
    ∗ atPos ER (sCell 0 c) 0 ∅ 0 ∗ atPos ER (sCell 1 c) 0 ∅ 0 ∗ atPos ER (sCell 2 c) 0 ∅ 0
    ∗ atPos ER (sCell 3 c) 0 ∅ 0 ∗ atPos ER (sCell 4 c) 0 ∅ 0 ∗ atPos ER (sCell 5 c) 0 ∅ 0
    ∗ atPos ER (vCell 0 c) 0 ∅ 0 ∗ atPos ER (vCell 1 c) 0 ∅ 0 ∗ atPos ER (vCell 2 c) 0 ∅ 0
    ∗ atPos ER (vCell 3 c) 0 ∅ 0 ∗ atPos ER (vCell 4 c) 0 ∅ 0 ∗ atPos ER (vCell 5 c) 0 ∅ 0)
/-- The same at the end: each counter at zero. -/
def zeros : sProp 𝕄 :=
  iprop(semVal (barCell c) 0
    ∗ semVal (sCell 0 c) 0 ∗ semVal (sCell 1 c) 0 ∗ semVal (sCell 2 c) 0
    ∗ semVal (sCell 3 c) 0 ∗ semVal (sCell 4 c) 0 ∗ semVal (sCell 5 c) 0
    ∗ semVal (vCell 0 c) 0 ∗ semVal (vCell 1 c) 0 ∗ semVal (vCell 2 c) 0
    ∗ semVal (vCell 3 c) 0 ∗ semVal (vCell 4 c) 0 ∗ semVal (vCell 5 c) 0)
/-- What others owe the device: both neighbours' signals and six landings. -/
def dues : sProp 𝕄 :=
  iprop(cred (tallyAt (barCell c) () 2)
    ∗ cred (tallyAt (vCell 0 c) () N) ∗ cred (tallyAt (vCell 1 c) () N) ∗ cred (tallyAt (vCell 2 c) () N)
    ∗ cred (tallyAt (vCell 3 c) () N) ∗ cred (tallyAt (vCell 4 c) () N) ∗ cred (tallyAt (vCell 5 c) () N))
/-- The send buffer and the four landing buffers, at any contents. -/
def scratch : sProp 𝕄 :=
  iprop((∃ f, own (F := F) c sM fullShare f) ∗ (∃ f, own (F := F) c lM fullShare f) ∗ (∃ f, own (F := F) c rM fullShare f)
    ∗ (∃ f, own (F := F) c dlM fullShare f) ∗ (∃ f, own (F := F) c drM fullShare f))
/-- The staged inputs. -/
def inputs : sProp 𝕄 :=
  iprop(own c stX fullShare (xs m c) ∗ own c stR fullShare (rw m c) ∗ own c stI fullShare (ids m c)
    ∗ own c stW fullShare (ew m c) ∗ own c stS fullShare (shw m c))

theorem step_ret {α : Type} {Q : α → sProp 𝕄} (a : α) : Q a ⊢ wp frame (wpE (defs₀ (F := F)) 𝒱₀ (c : Thread nD τ) none) Set.univ (.ret a) Q := by
  rw [wp_ret]; iintro H; imodintro; iexact H

set_option maxHeartbeats 1600000 in
set_option maxRecDepth 8000 in
/-- The body: from the staged inputs, the scratch, the device's duties and what is owed it, to the output at `outAt`, all
    duties done, all counters at zero. -/
theorem body (K : Dev nD × CK → ℕ) {Q : PUnit → sProp 𝕄} :
    iprop(records m K ∗ levAts L lv ∗ owing c (O₀ c) ∗ payToks c ∗ places c ∗ dues c ∗ scratch (F := F) c ∗ inputs m c
        ∗ (∃ Y, own c stO fullShare Y)
        ∗ ((owing c 0 ∗ zeros c ∗ scratch (F := F) c ∗ inputs m c ∗ own c stO fullShare (outAt m c)) -∗ Q ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6) Q := by
  rw [cc0_body_eq_skeleton]; unfold cc0_body_skel
  rw [k0_part12_eq_skeleton]; unfold k0_part12_skel
  simp only [wp_bind]
  unfold payToks places dues scratch inputs
  iintro ⟨#HR, #HL, HO, ⟨TbN, TbP, Ts0, Ts1, Ts2, Ts3, Ts4, Ts5, Tv0, Tv1, Tv2, Tv3, Tv4, Tv5⟩, ⟨Ab, As0, As1, As2, As3, As4, As5, Av0, Av1, Av2, Av3, Av4, Av5⟩, ⟨Cb, Cv0, Cv1, Cv2, Cv3, Cv4, Cv5⟩, ⟨S, Lm, Rm, Dl, Dr⟩, ⟨X, R, I, W, Sh⟩, Ou, Hk⟩
  ihave S := (some_split c sM) $$ S
  icases S with ⟨SLo, SHi⟩
  iapply (part1 m K c)
  isplitr; · iexact HR
  isplitr; · iexact HL
  isplitl [HO]; · iexact HO
  isplitl [TbN]; · iexact TbN
  isplitl [TbP]; · iexact TbP
  isplitl [Rm Dr]
  · unfold barFrom
    isplitl [Rm]; · iexact Rm
    iexact Dr
  isplitl [Lm Dl]
  · unfold barBack
    isplitl [Lm]; · iexact Lm
    iexact Dl
  isplitl [Cb]; · iexact Cb
  isplitl [Ab]; · iexact Ab
  isplitl [W]; · iexact W
  isplitl [SLo]; · iexact SLo
  iintro ⟨HO, Zb, F, B, W, SLo⟩
  try dsimp only
  unfold barFrom barBack
  icases F with ⟨PR, PDr⟩
  icases B with ⟨NL, NDl⟩
  ihave PR := (some_split (prv c) rM) $$ PR
  icases PR with ⟨PRLo, PRHi⟩
  ihave NL := (some_split (nxt c) lM) $$ NL
  icases NL with ⟨NLLo, NLHi⟩
  iapply (part2 m K c)
  isplitr; · iexact HR
  isplitl [HO]; · iexact HO
  isplitl [SLo]; · iexact SLo
  isplitl [NLLo]; · iexact NLLo
  isplitl [PRLo]; · iexact PRLo
  isplitl [NLHi]; · iexact NLHi
  isplitl [Ts0]; · iexact Ts0
  isplitl [Tv0]; · iexact Tv0
  isplitl [Ts2]; · iexact Ts2
  isplitl [Tv2]; · iexact Tv2
  isplitl [Ts1]; · iexact Ts1
  isplitl [Tv1]; · iexact Tv1
  isplitl [W]; · iexact W
  isplitl [SHi]; · iexact SHi
  iintro ⟨HO, Cs0, Cs2, Cs1, SLoC, W, SHiB, SHiC⟩
  try dsimp only
  iapply (part3 m K c)
  isplitr; · iexact HR
  isplitl [HO]; · iexact HO
  isplitl [SHiB]; · iexact SHiB
  isplitl [PRHi]; · iexact PRHi
  isplitl [Ts3]; · iexact Ts3
  isplitl [Tv3]; · iexact Tv3
  isplitl [X]; · iexact X
  isplitl [R]; · iexact R
  isplitl [I]; · iexact I
  iintro ⟨HO, Cs3, X, R, I⟩
  try dsimp only
  iapply (part4 m c)
  isplitl [SLoC]; · iexact SLoC
  isplitl [SHiC]; · iexact SHiC
  isplitl [Sh]; · iexact Sh
  iintro ⟨SLoC, SHiC, Sh⟩
  try dsimp only
  iapply (part5 m K c)
  isplitr; · iexact HR
  isplitr; · iexact HL
  isplitl [HO]; · iexact HO
  isplitl [Cv0]; · iexact Cv0
  isplitl [Av0]; · iexact Av0
  isplitl [Ou]; · iexact Ou
  iintro ⟨HO, Zv0, LLo, Ou⟩
  try dsimp only
  iapply (part6 m K c)
  isplitr; · iexact HR
  isplitl [HO]; · iexact HO
  isplitl [LLo]; · iexact LLo
  isplitl [NDl]; · iexact NDl
  isplitl [Ts4]; · iexact Ts4
  isplitl [Tv4]; · iexact Tv4
  isplitl [Ou]; · iexact Ou
  iintro ⟨HO, Cs4, LLo, Ou⟩
  try dsimp only
  iapply (part7 m K c)
  isplitr; · iexact HR
  isplitr; · iexact HL
  isplitl [HO]; · iexact HO
  isplitl [Cv2]; · iexact Cv2
  isplitl [Av2]; · iexact Av2
  isplitl [Ou]; · iexact Ou
  iintro ⟨HO, Zv2, RLo, Ou⟩
  try dsimp only
  iapply (part8 m K c)
  isplitr; · iexact HR
  isplitr; · iexact HL
  isplitl [HO]; · iexact HO
  isplitl [Cv1]; · iexact Cv1
  isplitl [Av1]; · iexact Av1
  isplitl [Ou]; · iexact Ou
  iintro ⟨HO, Zv1, LHi, Ou⟩
  try dsimp only
  iapply (part9 m K c)
  isplitr; · iexact HR
  isplitr; · iexact HL
  isplitl [HO]; · iexact HO
  isplitl [Cv3]; · iexact Cv3
  isplitl [Av3]; · iexact Av3
  isplitl [PDr]; · iexact PDr
  isplitl [Ts5]; · iexact Ts5
  isplitl [Tv5]; · iexact Tv5
  isplitl [Ou]; · iexact Ou
  iintro ⟨HO, Zv3, Cs5, RHi, Ou⟩
  try dsimp only
  iapply (part10 m K c)
  isplitr; · iexact HR
  isplitr; · iexact HL
  isplitl [HO]; · iexact HO
  isplitl [Cv4]; · iexact Cv4
  isplitl [Av4]; · iexact Av4
  isplitl [Ou]; · iexact Ou
  iintro ⟨HO, Zv4, Dl, Ou⟩
  try dsimp only
  iapply (part11 m K c)
  isplitr; · iexact HR
  isplitr; · iexact HL
  isplitl [HO]; · iexact HO
  isplitl [Cv5]; · iexact Cv5
  isplitl [Av5]; · iexact Av5
  isplitl [Cs0]; · iexact Cs0
  isplitl [As0]; · iexact As0
  isplitl [Ou]; · iexact Ou
  iintro ⟨HO, Zv5, Zs0, Dr, SLoA, Ou⟩
  try dsimp only
  simp only [Prog.lift, Prog.bind_op, Prog.bind_ret, Prog.pure_eq_ret]
  iapply (step_waitS m K 1 c rfl) $$ [HO Cs1 As1]
  · isplitr; · iexact HR
    isplitl [HO]; · iexact HO
    isplitl [Cs1]; · iexact Cs1
    iexact As1
  iintro ⟨HO, Zs1, HP⟩
  ihave SHiA := (show sendPay m c 1 ⊢ own c (hi sM) qA (wHi m c) from .rfl) $$ HP
  iapply (step_ret c)
  iapply (step_waitS m K 2 c rfl) $$ [HO Cs2 As2]
  · isplitr; · iexact HR
    isplitl [HO]; · iexact HO
    isplitl [Cs2]; · iexact Cs2
    iexact As2
  iintro ⟨HO, Zs2, HP⟩
  ihave SLoB := (show sendPay m c 2 ⊢ own c (lo sM) qB (wLo m c) from .rfl) $$ HP
  iapply (step_ret c)
  iapply (step_waitS m K 3 c rfl) $$ [HO Cs3 As3]
  · isplitr; · iexact HR
    isplitl [HO]; · iexact HO
    isplitl [Cs3]; · iexact Cs3
    iexact As3
  iintro ⟨HO, Zs3, HP⟩
  ihave SHiB := (show sendPay m c 3 ⊢ own c (hi sM) qB (wHi m c) from .rfl) $$ HP
  iapply (step_ret c)
  iapply (step_waitS m K 4 c rfl) $$ [HO Cs4 As4]
  · isplitr; · iexact HR
    isplitl [HO]; · iexact HO
    isplitl [Cs4]; · iexact Cs4
    iexact As4
  iintro ⟨HO, Zs4, HP⟩
  ihave LLoA := (show sendPay m c 4 ⊢ own c (lo lM) qA (wLo m (prv c)) from .rfl) $$ HP
  iapply (step_ret c)
  iapply (step_ret c)
  iapply (step_waitS m K 5 c rfl) $$ [HO Cs5 As5]
  · isplitr; · iexact HR
    isplitl [HO]; · iexact HO
    isplitl [Cs5]; · iexact Cs5
    iexact As5
  iintro ⟨HO, Zs5, HP⟩
  ihave RHiA := (show sendPay m c 5 ⊢ own c (hi rM) qA (wHi m (nxt c)) from .rfl) $$ HP
  iapply (step_ret c)
  iapply (step_ret c)
  ihave SLo := (own_of_thirds c (lo sM) _) $$ [SLoA SLoB SLoC]
  · isplitl [SLoA]; · iexact SLoA
    isplitl [SLoB]; · iexact SLoB
    iexact SLoC
  ihave SHi := (own_of_thirds c (hi sM) _) $$ [SHiA SHiB SHiC]
  · isplitl [SHiA]; · iexact SHiA
    isplitl [SHiB]; · iexact SHiB
    iexact SHiC
  ihave LLo := (own_whole c (lo lM) fullShare _) $$ [LLoA LLo]
  · isplitl [LLoA]; · iexact LLoA
    iexact LLo
  ihave RHi := (own_whole c (hi rM) fullShare _) $$ [RHiA RHi]
  · isplitl [RHiA]; · iexact RHiA
    iexact RHi
  ihave Sw := (own_both c sM fullShare _ _) $$ [SLo SHi]
  · isplitl [SLo]; · iexact SLo
    iexact SHi
  ihave Lw := (own_both c lM fullShare _ _) $$ [LLo LHi]
  · isplitl [LLo]; · iexact LLo
    iexact LHi
  ihave Rw := (own_both c rM fullShare _ _) $$ [RLo RHi]
  · isplitl [RLo]; · iexact RLo
    iexact RHi
  iapply Hk
  isplitl [HO]; · iexact HO
  isplitl [Zb Zs0 Zs1 Zs2 Zs3 Zs4 Zs5 Zv0 Zv1 Zv2 Zv3 Zv4 Zv5]
  · unfold zeros
    isplitl [Zb]; · iexact Zb
    isplitl [Zs0]; · iexact Zs0
    isplitl [Zs1]; · iexact Zs1
    isplitl [Zs2]; · iexact Zs2
    isplitl [Zs3]; · iexact Zs3
    isplitl [Zs4]; · iexact Zs4
    isplitl [Zs5]; · iexact Zs5
    isplitl [Zv0]; · iexact Zv0
    isplitl [Zv1]; · iexact Zv1
    isplitl [Zv2]; · iexact Zv2
    isplitl [Zv3]; · iexact Zv3
    isplitl [Zv4]; · iexact Zv4
    iexact Zv5
  isplitl [Sw Lw Rw Dl Dr]
  · isplitl [Sw]; · iexists _; iexact Sw
    isplitl [Lw]; · iexists _; iexact Lw
    isplitl [Rw]; · iexists _; iexact Rw
    isplitl [Dl]; · iexists _; iexact Dl
    iexists _; iexact Dr
  isplitl [X R I W Sh]
  · isplitl [X]; · iexact X
    isplitl [R]; · iexact R
    isplitl [I]; · iexact I
    isplitl [W]; · iexact W
    iexact Sh
  iexact Ou

end Body

end Cert.MoE

end
-- ==== Proof.Launch.lean ====
/-
The launch: the data the pipeline takes of the body, the ghost state dealt to the four devices, and the run of the
whole program from any memory.
-/
module

public import proofs.«01_k».proof.Proof.Body
public import Idealize.ShloMosaic.Lib.Pipeline.CollectiveSegs
public import Idealize.ShloMosaic.Lib.Pipeline.ValueKit

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The pipeline's data -/

section Data

variable (c : Dev nD)

/-- Device `c`'s ghost state: the records, its places at its own cells and the tokens of the duties it performs. -/
def ghost (K : Dev nD × CK → ℕ) : sProp 𝕄 := iprop(records m K ∗ places c ∗ payToks c)
/-- What device `c`'s body starts from, the scratch apart. -/
def start : sProp 𝕄 := iprop((∃ K, ghost m c K) ∗ dues c ∗ levAts L lv)
/-- Before the one point, and after it. -/
def Φ₀ : sProp 𝕄 := iprop(start m c ∗ scratch (F := F) c)
def Φ₁ : sProp 𝕄 := iprop(scratch (F := F) c ∗ zeros c)

def dats (_ : Fin 1) (c : Dev nD) : Dat τ (Elt F) Unit ℕ UU ℕ cfg0 c where
  A w := V m c (Pipeline.arrRef spec0 w)
  after w _ := match w with
    | ⟨0, _⟩ => xs m c
    | ⟨1, _⟩ => rw m c
    | ⟨2, _⟩ => ids m c
    | ⟨3, _⟩ => ew m c
    | ⟨4, _⟩ => shw m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem before_0 (d) : (dats m 0 c).before (0 : Fin 6) t0_0 d = xs m c := by
  unfold Dat.before; rw [if_pos (fetch0_0 t0_0)]; rfl
theorem before_1 (d) : (dats m 0 c).before (1 : Fin 6) t0_0 d = rw m c := by
  unfold Dat.before; rw [if_pos (fetch0_1 t0_0)]; rfl
theorem before_2 (d) : (dats m 0 c).before (2 : Fin 6) t0_0 d = ids m c := by
  unfold Dat.before; rw [if_pos (fetch0_2 t0_0)]; rfl
theorem before_3 (d) : (dats m 0 c).before (3 : Fin 6) t0_0 d = ew m c := by
  unfold Dat.before; rw [if_pos (fetch0_3 t0_0)]; rfl
theorem before_4 (d) : (dats m 0 c).before (4 : Fin 6) t0_0 d = shw m c := by
  unfold Dat.before; rw [if_pos (fetch0_4 t0_0)]; rfl

theorem bigSepW (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

/-- The body's precondition as the pipeline states it, and its postcondition. -/
def bodyPre : sProp 𝕄 :=
  iprop(Φ₀ m c ∗ (dats m 0 c).owesAt () (t0_0 : Fin cfg0.N).castSucc
    ∗ (∃ d, own c stX fullShare ((dats m 0 c).before (0 : Fin 6) t0_0 d))
    ∗ (∃ d, own c stR fullShare ((dats m 0 c).before (1 : Fin 6) t0_0 d))
    ∗ (∃ d, own c stI fullShare ((dats m 0 c).before (2 : Fin 6) t0_0 d))
    ∗ (∃ d, own c stW fullShare ((dats m 0 c).before (3 : Fin 6) t0_0 d))
    ∗ (∃ d, own c stS fullShare ((dats m 0 c).before (4 : Fin 6) t0_0 d))
    ∗ (∃ d, own c stO fullShare ((dats m 0 c).before (5 : Fin 6) t0_0 d)))
def bodyPost : sProp 𝕄 :=
  iprop(Φ₁ (F := F) c ∗ (dats m 0 c).owesAt () (t0_0 : Fin cfg0.N).succ
    ∗ own c stX fullShare (xs m c) ∗ own c stR fullShare (rw m c) ∗ own c stI fullShare (ids m c)
    ∗ own c stW fullShare (ew m c) ∗ own c stS fullShare (shw m c) ∗ own c stO fullShare (outAt m c))

set_option maxRecDepth 8000 in
/-- The pipeline's obligation on the body. -/
theorem body_obligation : BodyObligation (dats (F := F) m 0 c) (defs₀ (F := F)) 𝒱₀ () Set.univ := fun t => by
  rw [fin_N0 t, bigSepW, bigSepW]
  show bodyPre m c ⊢ wp frame (wpE (defs₀ (F := F)) 𝒱₀ (c : Thread nD τ) none) Set.univ (bodyAt0 t0_0) (fun _ => bodyPost m c)
  unfold bodyPre Φ₀ start ghost Dat.owesAt Pipeline.owesWithin
  iintro ⟨⟨⟨⟨%K, #HR, Hp, Ht⟩, Hd, #HL⟩, Hs⟩, ⟨%W, -, HO⟩, ⟨%d0, H0⟩, ⟨%d1, H1⟩, ⟨%d2, H2⟩, ⟨%d3, H3⟩, ⟨%d4, H4⟩, ⟨%d5, H5⟩⟩
  rw [before_0, before_1, before_2, before_3, before_4]
  iapply (body m c K)
  isplitr; · iexact HR
  isplitr; · iexact HL
  isplitl [HO]; · unfold owing; iexists W; iexact HO
  isplitl [Ht]; · iexact Ht
  isplitl [Hp]; · iexact Hp
  isplitl [Hd]; · iexact Hd
  isplitl [Hs]; · iexact Hs
  isplitl [H0 H1 H2 H3 H4]
  · unfold inputs
    isplitl [H0]; · iexact H0
    isplitl [H1]; · iexact H1
    isplitl [H2]; · iexact H2
    isplitl [H3]; · iexact H3
    iexact H4
  isplitl [H5]; · iexists _; iexact H5
  iintro ⟨HO, Hz, Hs, Hi, H5⟩
  unfold bodyPost Φ₁ owing inputs Dat.owesAt Pipeline.owesWithin
  icases HO with ⟨%W', HO⟩
  icases Hi with ⟨H0, H1, H2, H3, H4⟩
  isplitl [Hs Hz]
  · isplitl [Hs]; · iexact Hs
    iexact Hz
  isplitl [HO]
  · iexists W'
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  iexact H5

end Data

/-! ## Cells and tokens -/

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Every device's thirteen cells. -/
def ringCells : Finset (GSem nD τ sig) := Finset.univ.map ⟨kcell, kcell_injective⟩

/-- The duties of a device's own cells: `false` at each of them, and the barrier's other one. -/
abbrev tokOf (x : Dev nD × Option CK) : GSem nD τ sig × ℕ × Bool := match x.2 with
  | none => (barCell x.1, 0, true)
  | some k => (kcell (x.1, k), 0, false)

theorem tokOf_injective : Function.Injective (tokOf : Dev nD × Option CK → GSem nD τ sig × ℕ × Bool) := by
  rintro ⟨c, _ | k⟩ ⟨c', _ | k'⟩ h
  · exact congrArg (fun d : Dev nD => (d, none)) (congrArg (fun x : GSem nD τ sig × ℕ × Bool => x.1.1.1) h)
  · exact absurd (show false = true from (congrArg (fun x : GSem nD τ sig × ℕ × Bool => x.2.2) h).symm) (by decide)
  · exact absurd (show false = true from congrArg (fun x : GSem nD τ sig × ℕ × Bool => x.2.2) h) (by decide)
  · have h1 := kcell_injective (congrArg (fun x : GSem nD τ sig × ℕ × Bool => x.1) h)
    exact congrArg (fun y : Dev nD × CK => (y.1, some y.2)) h1

def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

theorem bigSep_ck (Φ : CK → sProp 𝕄) : bigSep Finset.univ Φ
    = iprop(Φ (none) ∗ Φ (some (false, 0)) ∗ Φ (some (false, 1)) ∗ Φ (some (false, 2)) ∗ Φ (some (false, 3)) ∗ Φ (some (false, 4)) ∗ Φ (some (false, 5)) ∗ Φ (some (true, 0)) ∗ Φ (some (true, 1)) ∗ Φ (some (true, 2)) ∗ Φ (some (true, 3)) ∗ Φ (some (true, 4)) ∗ Φ (some (true, 5))) :=
  bigSep_univ_eq_bigSepL [none, some (false, 0), some (false, 1), some (false, 2), some (false, 3), some (false, 4), some (false, 5), some (true, 0), some (true, 1), some (true, 2), some (true, 3), some (true, 4), some (true, 5)] (by decide) (by decide) Φ
theorem bigSep_ock (Φ : Option CK → sProp 𝕄) : bigSep Finset.univ Φ
    = iprop(Φ none ∗ Φ (some (none)) ∗ Φ (some (some (false, 0))) ∗ Φ (some (some (false, 1))) ∗ Φ (some (some (false, 2))) ∗ Φ (some (some (false, 3))) ∗ Φ (some (some (false, 4))) ∗ Φ (some (some (false, 5))) ∗ Φ (some (some (true, 0))) ∗ Φ (some (some (true, 1))) ∗ Φ (some (some (true, 2))) ∗ Φ (some (some (true, 3))) ∗ Φ (some (some (true, 4))) ∗ Φ (some (some (true, 5)))) :=
  bigSep_univ_eq_bigSepL [none, some (none), some (some (false, 0)), some (some (false, 1)), some (some (false, 2)), some (some (false, 3)), some (some (false, 4)), some (some (false, 5)), some (some (true, 0)), some (some (true, 1)), some (some (true, 2)), some (some (true, 3)), some (some (true, 4)), some (some (true, 5))] (by decide) (by decide) Φ

/-- The tokens of the duties of device `c`'s own cells. -/
def toks (c : Dev nD) : sProp 𝕄 :=
  bigSep Finset.univ fun k : Option CK => dutyTok ER (tokOf (c, k)).1 (tokOf (c, k)).2.1 (tokOf (c, k)).2.2

/-- What the launch element deals device `c`, and what one update of all devices together makes of it. -/
def G (c : Dev nD) : sProp 𝕄 :=
  iprop((bigSep Finset.univ fun k : CK => roundState ER (ringRd m) (kcell (c, k)) 0)
    ∗ (bigSep Finset.univ fun k : CK => atPos ER (kcell (c, k)) 0 ∅ 0)
    ∗ (bigSep Finset.univ fun k : CK => reached ER (kcell (c, k)) 0) ∗ toks c)
def G' (c : Dev nD) : sProp 𝕄 := iprop(∃ K, ghost m c K)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod]; rfl
  iintro HX
  imod (Rounds.fund ER (ringRd m) ringCells ringToks) $$ HX with ⟨Hst, Hr, Hat, Htok⟩
  imodintro
  ihave Hst := (Entails.of_eq (hX fun g => roundState ER (ringRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

/-- The kernel's own twelve semaphores at zero, and the barrier semaphore: all thirteen counters. -/
theorem ownSems0_eq (c : Dev nD) : (Pipeline.ownSems0 (Ix := Unit) (Name := ℕ) (U := UU) (Lvl := ℕ) (Val := Elt F) (τ := τ) osem c : sProp 𝕄)
    = iprop(semVal (sCell 0 c) 0 ∗ semVal (sCell 1 c) 0 ∗ semVal (sCell 2 c) 0 ∗ semVal (sCell 3 c) 0 ∗ semVal (sCell 4 c) 0 ∗ semVal (sCell 5 c) 0 ∗ semVal (vCell 0 c) 0 ∗ semVal (vCell 1 c) 0 ∗ semVal (vCell 2 c) 0 ∗ semVal (vCell 3 c) 0 ∗ semVal (vCell 4 c) 0 ∗ semVal (vCell 5 c) 0) := by
  rw [Pipeline.ownSems0_eq_of_list c osem [0, 1, 2, 3, 4, 5, 6, 7, 8, 9, 10, 11] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl
theorem sems0_eq (c : Dev nD) :
    (iprop(unscopedSems0 c ∗ Pipeline.ownSems0 (Ix := Unit) (Name := ℕ) (U := UU) (Lvl := ℕ) (Val := Elt F) (τ := τ) osem c) : sProp 𝕄) = zeros c := by
  rw [ownSems0_eq, unscopedSems0_eq]; rfl

/-- Each device's cells get their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k : CK => atPos ER (kcell (c, k)) 0 ∅ 0)
          ∗ (bigSep Finset.univ fun k : CK => reached ER (kcell (c, k)) 0) ∗ toks c) := by
  have hv : zeros (F := F) c = bigSep Finset.univ fun k : CK => semVal (kcell (c, k)) 0 := (bigSep_ck (F := F) fun k => semVal (kcell (c, k)) 0).symm
  have hinv : iprop((bigSep Finset.univ fun k : CK => semVal (kcell (c, k)) 0) ∗ bigSep Finset.univ fun k : CK => roundState ER (ringRd m) (kcell (c, k)) 0)
      ⊢ (|={Set.univ}=> bigSep Finset.univ fun k => iprop(∃ κ : ℕ, cellInv ER (ringRd m) κ (kcell (c, k))) : sProp 𝕄) := by
    rw [← bigSep_sep']
    exact (bigSep_mono fun k _ => (Rounds.body_intro ER (ringRd m) (kcell (c, k))).trans inv_alloc).trans (bigSep_fupd _ _)
  unfold G
  iintro ⟨Hos, Hus, Hst, Hrest⟩
  ihave Hv := (Entails.of_eq ((sems0_eq (F := F) c).trans hv)) $$ [Hos Hus]
  · isplitl [Hus] <;> iassumption
  imod hinv $$ [Hv Hst] with Hinv
  · isplitl [Hv] <;> iassumption
  imodintro
  isplitl [Hinv] <;> iassumption

/-- The tokens dealt around the ring, each to the device that performs its duty. -/
theorem toks_around : (bigSep Finset.univ fun c : Dev nD => (toks c : sProp 𝕄)) ⊢ bigSep Finset.univ fun c : Dev nD => payToks c := by
  unfold toks payToks
  simp only [bigSep_ock, bigSep_sep']
  rw [bigSep_univ_equiv ring.symm (fun c : Dev nD => (dutyTok ER (tokOf (c, none)).1 (tokOf (c, none)).2.1 (tokOf (c, none)).2.2 : sProp 𝕄)),
    bigSep_univ_equiv ring (fun c : Dev nD => (dutyTok ER (tokOf (c, some none)).1 (tokOf (c, some none)).2.1 (tokOf (c, some none)).2.2 : sProp 𝕄)),
    bigSep_univ_equiv ring (fun c : Dev nD => (dutyTok ER (tokOf (c, some (some (true, 0)))).1 (tokOf (c, some (some (true, 0)))).2.1 (tokOf (c, some (some (true, 0)))).2.2 : sProp 𝕄)),
    bigSep_univ_equiv ring (fun c : Dev nD => (dutyTok ER (tokOf (c, some (some (true, 1)))).1 (tokOf (c, some (some (true, 1)))).2.1 (tokOf (c, some (some (true, 1)))).2.2 : sProp 𝕄)),
    bigSep_univ_equiv ring.symm (fun c : Dev nD => (dutyTok ER (tokOf (c, some (some (true, 2)))).1 (tokOf (c, some (some (true, 2)))).2.1 (tokOf (c, some (some (true, 2)))).2.2 : sProp 𝕄)),
    bigSep_univ_equiv ring.symm (fun c : Dev nD => (dutyTok ER (tokOf (c, some (some (true, 3)))).1 (tokOf (c, some (some (true, 3)))).2.1 (tokOf (c, some (some (true, 3)))).2.2 : sProp 𝕄)),
    bigSep_univ_equiv ring (fun c : Dev nD => (dutyTok ER (tokOf (c, some (some (true, 4)))).1 (tokOf (c, some (some (true, 4)))).2.1 (tokOf (c, some (some (true, 4)))).2.2 : sProp 𝕄)),
    bigSep_univ_equiv ring.symm (fun c : Dev nD => (dutyTok ER (tokOf (c, some (some (true, 5)))).1 (tokOf (c, some (some (true, 5)))).2.1 (tokOf (c, some (some (true, 5)))).2.2 : sProp 𝕄))]
  iintro ⟨Ht, Hf, S0, S1, S2, S3, S4, S5, V0, V1, V2, V3, V4, V5⟩
  isplitl [Hf]; · iexact Hf
  isplitl [Ht]; · iexact Ht
  isplitl [S0]; · iexact S0
  isplitl [S1]; · iexact S1
  isplitl [S2]; · iexact S2
  isplitl [S3]; · iexact S3
  isplitl [S4]; · iexact S4
  isplitl [S5]; · iexact S5
  isplitl [V0]; · iexact V0
  isplitl [V1]; · iexact V1
  isplitl [V2]; · iexact V2
  isplitl [V3]; · iexact V3
  isplitl [V4]; · iexact V4
  iexact V5

/-- A persistent fact goes to every summand. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m) κ (kcell (c, k))))
          ∗ (bigSep Finset.univ fun k : CK => atPos ER (kcell (c, k)) 0 ∅ 0)
          ∗ (bigSep Finset.univ fun k : CK => reached ER (kcell (c, k)) 0) ∗ toks c) : sProp 𝕄)
      ⊢ bigSep Finset.univ (G' m) := by
  have hp : ∀ c : Dev nD, (bigSep Finset.univ fun k : CK => atPos ER (kcell (c, k)) 0 ∅ 0 : sProp 𝕄) = places c := fun c => by
    rw [bigSep_ck]; rfl
  rw [bigSep_sep', bigSep_sep', bigSep_sep', ← bigSep_univ_prod (fun ck : Dev nD × CK => iprop(∃ κ : ℕ, cellInv ER (ringRd m) κ (kcell ck))),
    ← bigSep_univ_prod (fun ck : Dev nD × CK => (reached ER (kcell ck) 0 : sProp 𝕄)), bigSep_congr (s := Finset.univ) fun (c : Dev nD) _ => hp c]
  iintro ⟨HI, Hat, #HR, Htok⟩
  ihave HK := (BI.bigSep_exists_pi Finset.univ (fun (ck : Dev nD × CK) (κ : ℕ) => (cellInv ER (ringRd m) κ (kcell ck) : sProp 𝕄))) $$ HI
  icases HK with ⟨%K, #HI⟩
  ihave Htk := (toks_around (F := F)) $$ Htok
  iapply (bigSep_with (R := records m K) (Φ := fun c => iprop(places c ∗ payToks c)) fun c _ => show _ ⊢ G' m c from by
    unfold G' ghost; iintro H; iexists K; iexact H)
  isplitr
  · unfold records; isplitl; · iexact HI
    iexact HR
  · rw [bigSep_sep']
    isplitl [Hat] <;> iassumption

/-- The ghost state is dealt: the semaphores of all devices at once become the ring's cells. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- Of all that the devices owe at launch, device `c` is owed two units at its barrier and six landings. -/
theorem dues_intro (c : Dev nD) : (Pipeline.launchCred O₀ c : sProp 𝕄) ⊢ dues c := by
  have hO : (O₀ : Dev nD → CellTallies nD τ sig Unit) = fun d => tallyAt (vCell 5 (prv d)) () N + tallyAt (vCell 4 (nxt d)) () N + tallyAt (vCell 3 (prv d)) () N
      + tallyAt (vCell 1 (nxt d)) () N + tallyAt (vCell 2 (prv d)) () N + tallyAt (vCell 0 (nxt d)) () N
      + tallyAt (barCell (nxt d)) () 1 + tallyAt (barCell (prv d)) () 1 := rfl
  have hv (j : Fin 6) (f g : Dev nD → Dev nD) (h1 : ∀ c, f (g c) = c) (h2 : ∀ c, g (f c) = c) :
      (Pipeline.launchCred (fun d => tallyAt (vCell j (f d)) () N) c : sProp 𝕄) ⊢ cred (tallyAt (vCell j c) () N) :=
    Pipeline.launchCred_tallyAt (.dma (vS j)) f g h1 h2 () N c
  have hb (f g : Dev nD → Dev nD) (h1 : ∀ c, f (g c) = c) (h2 : ∀ c, g (f c) = c) :
      (Pipeline.launchCred (fun d => tallyAt (barCell (f d)) () 1) c : sProp 𝕄) ⊢ cred (tallyAt (barCell c) () 1) :=
    Pipeline.launchCred_tallyAt (.reg barS) f g h1 h2 () 1 c
  have h2 : iprop(cred (tallyAt (barCell c) () 1) ∗ cred (tallyAt (barCell c) () 1)) ⊢ (cred (tallyAt (barCell c) () 2) : sProp 𝕄) :=
    ((cred_add _ _).2).trans (Entails.of_eq (by rw [tallyAt_add]))
  rw [hO]
  simp only [Pipeline.launchCred_add]
  unfold dues
  iintro ⟨⟨⟨⟨⟨⟨⟨H5, H4⟩, H3⟩, H1⟩, H2⟩, H0⟩, HN⟩, HP⟩
  isplitl [HN HP]
  · iapply h2
    isplitl [HN]
    · iapply (hb nxt prv nxt_prv prv_nxt); iexact HN
    · iapply (hb prv nxt prv_nxt nxt_prv); iexact HP
  isplitl [H0]; · iapply (hv 0 nxt prv nxt_prv prv_nxt); iexact H0
  isplitl [H1]; · iapply (hv 1 nxt prv nxt_prv prv_nxt); iexact H1
  isplitl [H2]; · iapply (hv 2 prv nxt prv_nxt nxt_prv); iexact H2
  isplitl [H3]; · iapply (hv 3 prv nxt prv_nxt nxt_prv); iexact H3
  isplitl [H4]; · iapply (hv 4 nxt prv nxt_prv prv_nxt); iexact H4
  iapply (hv 5 prv nxt prv_nxt nxt_prv); iexact H5

/-! ## The run -/

variable (ρ : Dev nD → PrngReg)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (dues_intro (F := F) c) $$ Hcr
  imodintro
  unfold start G'
  isplitl
  · isplitl [HG]; · iexact HG
    isplitl [Hc]; · iexact Hc
    iexact Hlev
  · iempintro

/-- The scratch buffers whole, at any contents. -/
theorem scratch_eq (c : Dev nD) : (Pipeline.scopedRest cfg0.spec c : sProp 𝕄) = scratch (F := F) c := by
  rw [show (Pipeline.scopedRest cfg0.spec c : sProp 𝕄) = _ from scopedRest0_eq c]
  unfold scratch own
  simp only [owns_whole]
  rfl

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scratch_eq]
  unfold Φ₁
  iintro ⟨Hs, Hz⟩
  ihave Hz := (Entails.of_eq (sems0_eq (F := F) c).symm) $$ Hz
  icases Hz with ⟨Hu, Ho⟩
  isplitl [Hu]; · iexact Hu
  isplitl [Ho] <;> iassumption

theorem waits (c : Dev nD) : (levAts L lv : sProp 𝕄) ⊢ Pipeline.cellsWaits cfgs (dats m) () 0 c :=
  Pipeline.cellsWaits_intro cfgs (dats m) () 0 c fun w s t => by
    have hs : lv ((c : Thread nD τ), .dma (((cfgs 0).win w).sem s)) () ≤ 0 :=
      (by decide : ∀ (w : Fin 6) (s : Fin (spec0 w).nbuf), lv (((0 : Dev nD) : Thread nD τ), .dma ((spec0 w).sem s)) () ≤ 0) w s
    rcases t with ⟨_ | _, ht⟩
    · exact mayWait_of_above (above_O₀ c) c _ hs
    · rw [show (dats m 0 c).owed ⟨_ + 1, ht⟩ = 0 from rfl, MayWait_zero]; iintro -; iempintro

/-- What the arrays hold after a run. -/
def finalA (c : Dev nD) (w : Fin cfg0.W) : Buf (Elt F) ((cfg0.win w).arr.view.loc (c : Thread nD τ)) := (dats m 0 c).arrAt w cfg0.N

set_option maxRecDepth 8000 in
/-- From any memory, every fair execution of the four devices' programs ends, with every array as `finalA` has it and
    every semaphore's counter at zero. -/
theorem run_arrays : θ_run defs (onTc (τ := τ) (main (F := F))) ⟨m, fun _ => 0, ρ⟩
    (fun r => (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array is written back whole; the arguments are as they were. -/
theorem finalA_out (c : Dev nD) : finalA m c (5 : Fin 6) = outAt m c := by
  refine (dats m 0 c).arrAt_eq_of_after_last (5 : Fin 6) t0_0 (by decide +kernel) _ fun j => ?_
  blk_simp
  rfl
theorem finalA_in (c : Dev nD) (w : Fin cfg0.W) (h : (cfg0.win w).isOut = false) : finalA m c w = V m c (Pipeline.arrRef spec0 w) :=
  (dats m 0 c).arrAt_in w h _

/-- The run of the whole program: the result at `outAt`, the arguments unchanged, the counters at zero. -/
theorem run_main : θ_run defs (onTc (τ := τ) (main (F := F))) ⟨m, fun _ => 0, ρ⟩
    (fun r => (∀ c : Dev nD, r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c (5 : Fin 6)).trans (finalA_out m c), (h.1 c (0 : Fin 6)).trans (finalA_in m c (0 : Fin 6) rfl),
    (h.1 c (1 : Fin 6)).trans (finalA_in m c (1 : Fin 6) rfl), (h.1 c (2 : Fin 6)).trans (finalA_in m c (2 : Fin 6) rfl),
    (h.1 c (3 : Fin 6)).trans (finalA_in m c (3 : Fin 6) rfl), (h.1 c (4 : Fin 6)).trans (finalA_in m c (4 : Fin 6) rfl)⟩, h.2⟩) (run_arrays m ρ)

end Cert.MoE

end
-- ==== Proof.Frames.lean ====
/-
The frames: each program ends with its arguments as they were and with every semaphore counter at zero.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.MoE

open Idealize.ShloMosaic Idealize.SL.Sem

/-- The kernel over the extended reals: its run with the result dropped. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The two printed kernels are the same text: their body tables agree, -/
theorem bodies_eq {F : FTy → Type} [FloatOps F] : (Cert.Kernel.defs₀ (F := F)) = Cert.KernelIdeal.defs₀ (F := F) := by
  unfold Cert.Kernel.defs₀ Cert.KernelIdeal.defs₀
  refine congrArg (Defs.onTc (sig := Cert.KernelIdeal.sig) (Λ := Cert.KernelIdeal.Λ₀)) ?_
  funext l a
  match l with
  | 0 => rfl
  | ⟨_ + 1, h⟩ => exact absurd h (Nat.not_lt.2 (Nat.le_add_left _ _))

/-- and so do the tables of their whole programs. -/
theorem defs_eq {F : FTy → Type} [FloatOps F] : (Cert.Kernel.defs (F := F)) = Cert.KernelIdeal.defs (F := F) := by
  unfold Cert.Kernel.defs Cert.KernelIdeal.defs
  rw [bodies_eq]
  rfl

/-- The kernel over words: the same program, run over the words. -/
theorem frame_kernel : Cert.quiescent_Kernel := fun m ρ _ =>
  (defs_eq (F := Bits)).symm ▸ (θ_run Cert.KernelIdeal.defs _ _).mono (fun _ h => ⟨fun c => (h.1 c).2, h.2⟩)
    (run_main (F := Bits) m ρ)

/-- The reference: its run with the result dropped; it has no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.MoE

end
-- ==== Proof.Finite.lean ====
/-
What the precondition says: on every device each entry of the tokens and of the router's matrix is a real number.
-/
module

public import proofs.«01_k».proof.Defs
public import Idealize.ShloMosaic.Lib.ReduceAll
public import Idealize.ShloMosaic.Lib.Pointwise

@[expose] public section

noncomputable section

namespace Cert.MoE

open Idealize.ShloMosaic

/-- The shape relations the precondition's function takes, for one device's shapes. -/
instance facts_pre_kernel : Cert.Pre_finite_KernelIdeal.Facts where
  bcast_S_S2048x512 := by decide
  reducesTo_S2048x512_S_d0_1 := by decide
  h_S_ := by decide
  bcast_S_S512x16 := by decide
  reducesTo_S512x16_S_d0_1 := by decide

/-- The same, for the whole arrays' shapes. -/
instance facts_pre_reference : Cert.Pre_finite_ReferenceIdeal.Facts where
  bcast_S_S8192x512 := by decide
  reducesTo_S8192x512_S_d0_1 := by decide
  h_S_ := by decide
  bcast_S_S512x16 := by decide
  reducesTo_S512x16_S_d0_1 := by decide

/-- An extended real that is a real number. -/
def IsReal (a : EReal) : Prop := a ≠ ⊤ ∧ a ≠ ⊥

/-- A number whose absolute value is below infinity is neither infinity. -/
theorem real_of_abs (a : EReal) (h : Ideal.cmp .olt (max a (-a)) (Ideal.ofBits .f32 0x7F800000#32) = 1#1) : IsReal a := by
  have ht : Ideal.ofBits .f32 0x7F800000#32 = ⊤ := by simp [Ideal.ofBits, Ideal.ieee]
  rw [ht] at h
  refine ⟨fun e => ?_, fun e => ?_⟩ <;> (subst e; simp [Ideal.cmp] at h)

open Cert.Pre_finite_KernelIdeal in
/-- The precondition's function being one: every entry of its first two arrays is a real number. -/
theorem finite_of_fn (x : FVec Ideal S2048x512 .f32) (R : FVec Ideal S512x16 .f32) (w : IVec S2048x1 32)
    (W : FVec Ideal S4x512x1024 .f32) (S : FVec Ideal S512x1024 .f32) (h : fn x R w W S = fun _ => 1#1) :
    (∀ i, IsReal (x i)) ∧ ∀ i, IsReal (R i) := by
  haveI : Subsingleton S_.Idx := ⟨fun a b => funext fun i => i.elim0⟩
  obtain ⟨h1, h2⟩ := IntOp.andi_eq_one.1 (congrFun h ix0)
  exact ⟨fun i => real_of_abs _ (Host.reduce_andi_all _ _ _ _ _ h1 i), fun i => real_of_abs _ (Host.reduce_andi_all _ _ _ _ _ h2 i)⟩

end Cert.MoE

end
-- ==== Proof.Expert.lean ====
/-
One token of the mixture, over the extended reals: its scores, the weights their softmax gives the sixteen experts,
the gate its routing word picks among them, and what an expert contributes to one column of its result.

The kernel sums, over the sixteen experts, the products of the gated token — gated by zero where the expert is not the
token's — and the expert's weights. The reference takes the product of the token and its own expert's weights, and
scales that by the gate. The two agree where the gate distributes over the sum, as a nonnegative real does, whatever
the weights are; and the softmax of finite scores is such a number.
-/
module

public import Idealize.ShloMosaic.PureOps.Ideal.Laws
public import Idealize.ShloMosaic.PureOps.Ideal

@[expose] public section

noncomputable section

namespace Cert.MoE

open Idealize.ShloMosaic

/-- The score of expert `e`: the token against the router's column. -/
def score (x : Fin 512 → EReal) (R : Fin 512 → Fin 16 → EReal) (e : Fin 16) : EReal := ∑ k, x k * R k e

/-- The greatest score. -/
def top (s : Fin 16 → EReal) : EReal := Finset.fold max (Ideal.ofBits .f32 0xFF800000#32) s Finset.univ

/-- The softmax of the scores, at expert `e`. -/
def soft (s : Fin 16 → EReal) (e : Fin 16) : EReal :=
  Ideal.div (Ideal.exp (s e - top s)) (∑ i, Ideal.exp (s i - top s))

/-- The gate of a token routed to the expert the word `w` names: zero where it names none. -/
def gateOf (s : Fin 16 → EReal) (w : BitVec 32) : EReal := ∑ e : Fin 16, if w = BitVec.ofNat 32 e.val then soft s e else 0

/-- What expert `u` adds to one column: the token, gated where the expert is its own, against the column `W`. -/
def part (x : Fin 512 → EReal) (g : EReal) (w u : BitVec 32) (W : Fin 512 → EReal) : EReal :=
  ∑ k, if w = u then x k * g * W k else 0

/-! ## The softmax of finite scores -/

theorem ofBits_neg_inf : Ideal.ofBits .f32 0xFF800000#32 = ⊥ := by simp [Ideal.ofBits, Ideal.ieee]

/-- The sum of reals, as extended reals. -/
theorem coe_sum {ι : Type} [Fintype ι] (a : ι → ℝ) : ((∑ k, a k : ℝ) : EReal) = ∑ k, (a k : EReal) := by
  classical
  induction (Finset.univ : Finset ι) using Finset.induction_on with
  | empty => simp
  | insert i T hi ih => rw [Finset.sum_insert hi, Finset.sum_insert hi, EReal.coe_add, ih]

/-- Finite scores have a finite greatest one. -/
theorem top_finite (s : Fin 16 → EReal) (hs : ∀ e, s e ≠ ⊤ ∧ s e ≠ ⊥) : top s ≠ ⊤ ∧ top s ≠ ⊥ := by
  unfold top
  rw [ofBits_neg_inf]
  refine ⟨ne_of_lt ((Finset.fold_max_lt _).2 ⟨bot_lt_top, fun e _ => lt_top_iff_ne_top.2 (hs e).1⟩), ?_⟩
  refine ne_of_gt (lt_of_lt_of_le (bot_lt_iff_ne_bot.2 (hs 0).2) ?_)
  exact (Finset.le_fold_max _).2 (Or.inr ⟨0, Finset.mem_univ _, le_rfl⟩)

/-- The softmax of finite scores is a nonnegative real. -/
theorem soft_finite (s : Fin 16 → EReal) (hs : ∀ e, s e ≠ ⊤ ∧ s e ≠ ⊥) (e : Fin 16) : 0 ≤ soft s e ∧ soft s e ≠ ⊤ := by
  obtain ⟨t, ht⟩ : ∃ t : ℝ, top s = t := ⟨_, (EReal.coe_toReal (top_finite s hs).1 (top_finite s hs).2).symm⟩
  have ha : ∀ e, ∃ a : ℝ, s e = a := fun e => ⟨_, (EReal.coe_toReal (hs e).1 (hs e).2).symm⟩
  choose a ha using ha
  have hexp : ∀ e, Ideal.exp (s e - top s) = ((Real.exp (a e - t) : ℝ) : EReal) := fun e => by
    rw [ha, ht, ← EReal.coe_sub]; rfl
  have hsum : ∑ i, Ideal.exp (s i - top s) = ((∑ i, Real.exp (a i - t) : ℝ) : EReal) := by
    simp only [hexp]; exact (coe_sum _).symm
  have hpos : 0 < ∑ i : Fin 16, Real.exp (a i - t) := Finset.sum_pos (fun i _ => Real.exp_pos _) Finset.univ_nonempty
  have hval : soft s e = ((Real.exp (a e - t) * (∑ i, Real.exp (a i - t))⁻¹ : ℝ) : EReal) := by
    unfold soft
    rw [hsum, hexp, Ideal.div, if_neg (by exact_mod_cast hpos.ne'), ← EReal.coe_inv, ← EReal.coe_mul]
  rw [hval]
  exact ⟨by exact_mod_cast mul_nonneg (Real.exp_pos _).le (inv_nonneg.2 hpos.le), EReal.coe_ne_top _⟩

/-- A sum of extended reals which are real is real. -/
theorem sum_finite {ι : Type} [Fintype ι] (f : ι → EReal) (hf : ∀ k, f k ≠ ⊤ ∧ f k ≠ ⊥) : (∑ k, f k) ≠ ⊤ ∧ (∑ k, f k) ≠ ⊥ := by
  have ha : ∀ k, ∃ a : ℝ, f k = a := fun k => ⟨_, (EReal.coe_toReal (hf k).1 (hf k).2).symm⟩
  choose a ha using ha
  have : ∑ k, f k = ((∑ k, a k : ℝ) : EReal) := by simp only [ha]; exact (coe_sum _).symm
  rw [this]; exact ⟨EReal.coe_ne_top _, EReal.coe_ne_bot _⟩

/-- A finite token against a finite router has finite scores. -/
theorem score_finite (x : Fin 512 → EReal) (R : Fin 512 → Fin 16 → EReal) (hx : ∀ k, x k ≠ ⊤ ∧ x k ≠ ⊥)
    (hR : ∀ k e, R k e ≠ ⊤ ∧ R k e ≠ ⊥) (e : Fin 16) : score x R e ≠ ⊤ ∧ score x R e ≠ ⊥ := by
  refine sum_finite _ fun k => ?_
  obtain ⟨a, ha⟩ : ∃ a : ℝ, x k = a := ⟨_, (EReal.coe_toReal (hx k).1 (hx k).2).symm⟩
  obtain ⟨b, hb⟩ : ∃ b : ℝ, R k e = b := ⟨_, (EReal.coe_toReal (hR k e).1 (hR k e).2).symm⟩
  rw [ha, hb, ← EReal.coe_mul]; exact ⟨EReal.coe_ne_top _, EReal.coe_ne_bot _⟩

/-! ## The gate -/

/-- The words of the experts differ. -/
theorem word_inj (a b : Fin 16) (h : BitVec.ofNat 32 a.val = BitVec.ofNat 32 b.val) : a = b := by
  revert a b; decide

/-- The gate of a token routed to expert `e` is the softmax there. -/
theorem gateOf_word (s : Fin 16 → EReal) (e : Fin 16) : gateOf s (BitVec.ofNat 32 e.val) = soft s e := by
  unfold gateOf
  rw [Finset.sum_eq_single e (fun i _ hi => if_neg fun h => hi (word_inj e i h).symm) fun h => (h (Finset.mem_univ _)).elim]
  exact if_pos rfl

/-- The gate of a token routed to none of the experts is zero. -/
theorem gateOf_none (s : Fin 16 → EReal) (w : BitVec 32) (h : ∀ e : Fin 16, w ≠ BitVec.ofNat 32 e.val) : gateOf s w = 0 :=
  Finset.sum_eq_zero fun e _ => if_neg (h e)

/-! ## What an expert adds -/

/-- A nonnegative real distributes over a sum of extended reals, whatever they are. -/
theorem mul_sum_of_real {ι : Type} (S : Finset ι) (g : EReal) (hg : 0 ≤ g) (hg' : g ≠ ⊤) (f : ι → EReal) :
    g * ∑ k ∈ S, f k = ∑ k ∈ S, g * f k := by
  classical
  induction S using Finset.induction_on with
  | empty => simp
  | insert a T ha ih => rw [Finset.sum_insert ha, Finset.sum_insert ha, EReal.left_distrib_of_nonneg_of_ne_top hg hg', ih]

/-- An expert that is not the token's adds nothing. -/
theorem part_other (x : Fin 512 → EReal) (g : EReal) (w u : BitVec 32) (W : Fin 512 → EReal) (h : w ≠ u) : part x g w u W = 0 :=
  Finset.sum_eq_zero fun k _ => if_neg h

/-- The token's own adds the gate times the token against the expert's column. -/
theorem part_own (x : Fin 512 → EReal) (g : EReal) (hg : 0 ≤ g) (hg' : g ≠ ⊤) (w : BitVec 32) (W : Fin 512 → EReal) :
    part x g w w W = g * ∑ k, x k * W k := by
  rw [mul_sum_of_real _ g hg hg']
  refine Finset.sum_congr rfl fun k _ => ?_
  rw [if_pos rfl, mul_comm (x k) g, mul_assoc]

/-- THE EQUATION: over all sixteen experts, the gated token against their columns adds up to the gate times the token
    against the column of its own expert — any column, where the word names no expert. -/
theorem sum_parts (x : Fin 512 → EReal) (s : Fin 16 → EReal) (hs : ∀ e, s e ≠ ⊤ ∧ s e ≠ ⊥) (w : BitVec 32)
    (W : Fin 16 → Fin 512 → EReal) (i : Fin 16) (hi : ∀ e : Fin 16, w = BitVec.ofNat 32 e.val → i = e) :
    ∑ e : Fin 16, part x (gateOf s w) w (BitVec.ofNat 32 e.val) (W e) = gateOf s w * ∑ k, x k * W i k := by
  by_cases h : ∃ e : Fin 16, w = BitVec.ofNat 32 e.val
  · obtain ⟨e, rfl⟩ := h
    obtain rfl := hi e rfl
    rw [Finset.sum_eq_single i (fun j _ hj => part_other _ _ _ _ _ fun h => hj (word_inj i j h).symm)
      fun h => (h (Finset.mem_univ _)).elim]
    rw [gateOf_word]
    exact part_own _ _ (soft_finite s hs i).1 (soft_finite s hs i).2 _ _
  · have h' : ∀ e : Fin 16, w ≠ BitVec.ofNat 32 e.val := fun e he => h ⟨e, he⟩
    rw [gateOf_none s w h', zero_mul]
    exact Finset.sum_eq_zero fun e _ => part_other _ _ _ _ _ (h' e)

end Cert.MoE

end
-- ==== Proof.Arrays.lean ====
/-
What the registers and buffers of a device hold, in terms of its argument arrays: the kernel stages every array whole, and the
four places of the ring are the words of four devices.
-/
module

public import proofs.«01_k».proof.Proof.Values
public import proofs.«01_k».proof.Proof.Expert
public import Idealize.ShloMosaic.Lib.Pointwise
public import Idealize.ShloMosaic.Lib.Pipeline.ValueKit.Point

@[expose] public section

noncomputable section

namespace Cert.MoE

open Idealize.ShloMosaic Idealize.ShloMosaic.TcCoe
open Cert.KernelIdeal Cert.KernelIdeal.Gen

variable (m : (ℓ : Loc nD τ sig) → Buf (Elt Ideal) ℓ)

/-! ## The places on the ring -/

/-- The word a device computes for itself is its number. -/
theorem mine_eq (c : Dev nD) : mine c = BitVec.ofNat 32 c.val := by revert c; decide
/-- The word it computes for the device before it is that device's number. -/
theorem left_eq (c : Dev nD) : left c = BitVec.ofNat 32 (prv c).val := by revert c; decide
/-- The word it computes for the device after it is that device's number. -/
theorem right_eq (c : Dev nD) : right c = BitVec.ofNat 32 (nxt c).val := by revert c; decide
/-- The word it computes for the device across is that device's number. -/
theorem across_eq (c : Dev nD) : across c = BitVec.ofNat 32 (prv (prv c)).val := by revert c; decide
/-- On a ring of four, two steps forward and two steps back meet. -/
theorem nxt_nxt (c : Dev nD) : nxt (nxt c) = prv (prv c) := by revert c; decide

/-! ## The arrays, staged whole -/

/-- The tokens' window starts at the origin. -/
theorem idx_0 : ∀ a, win0_0.index t0_0 a = 0 := by decide
/-- The router's window starts at the origin. -/
theorem idx_1 : ∀ a, win0_1.index t0_0 a = 0 := by decide
/-- The words' window starts at the origin. -/
theorem idx_2 : ∀ a, win0_2.index t0_0 a = 0 := by decide
/-- The experts' window starts at the origin. -/
theorem idx_3 : ∀ a, win0_3.index t0_0 a = 0 := by decide
/-- The shared expert's window starts at the origin. -/
theorem idx_4 : ∀ a, win0_4.index t0_0 a = 0 := by decide

/-- The staged tokens are the argument array. -/
theorem xs_eq (c : Dev nD) : xs m c = m ((c.tc : Thread nD τ).loc main_arg0) := by
  unfold xs
  blk_ext! [iblk, V, idx_0 0, idx_0 1]
/-- The staged router's matrix is the argument array. -/
theorem rw_eq (c : Dev nD) : rw m c = m ((c.tc : Thread nD τ).loc main_arg1) := by
  unfold rw
  blk_ext! [iblk, V, idx_1 0, idx_1 1]
/-- The staged words are the argument array. -/
theorem ids_eq (c : Dev nD) : ids m c = m ((c.tc : Thread nD τ).loc main_arg2) := by
  unfold ids
  blk_ext! [iblk, V, idx_2 0, idx_2 1]
/-- The staged experts' weights are the argument array. -/
theorem ew_eq (c : Dev nD) : ew m c = m ((c.tc : Thread nD τ).loc main_arg3) := by
  unfold ew
  blk_ext! [iblk, V, idx_3 0, idx_3 1, idx_3 2]
/-- The staged shared weights are the argument array. -/
theorem shw_eq (c : Dev nD) : shw m c = m ((c.tc : Thread nD τ).loc main_arg4) := by
  unfold shw
  blk_ext! [iblk, V, idx_4 0, idx_4 1]

/-- The lower half of the rounded weights is experts 0 and 1 of the device. -/
theorem wLo_apply (c : Dev nD) (e : Fin 2) (k : Fin 512) (f : Fin 1024) :
    wLo m c (ix3 e k f) = m ((c.tc : Thread nD τ).loc main_arg3) (ix3 ⟨e.val, by omega⟩ k f) := by
  unfold wLo wb
  rw [ew_eq]
  show m ((c.tc : Thread nD τ).loc main_arg3) (rLo.emb (ix3 e k f)) = _
  congr 1
  funext d
  match d with
  | ⟨0, _⟩ => exact Fin.ext (by simp)
  | ⟨1, _⟩ => exact Fin.ext (by simp)
  | ⟨2, _⟩ => exact Fin.ext (by simp)

/-- The upper half is experts 2 and 3. -/
theorem wHi_apply (c : Dev nD) (e : Fin 2) (k : Fin 512) (f : Fin 1024) :
    wHi m c (ix3 e k f) = m ((c.tc : Thread nD τ).loc main_arg3) (ix3 ⟨2 + e.val, by omega⟩ k f) := by
  unfold wHi wb
  rw [ew_eq]
  show m ((c.tc : Thread nD τ).loc main_arg3) (rHi.emb (ix3 e k f)) = _
  congr 1
  funext d
  match d with
  | ⟨0, _⟩ => exact Fin.ext (by simp)
  | ⟨1, _⟩ => exact Fin.ext (by simp)
  | ⟨2, _⟩ => exact Fin.ext (by simp)

end Cert.MoE

end
-- ==== Proof.Payloads.lean ====
/-
The payloads of the kernel's program read at an index: the gate of each token, and what each of the seven matrix products
adds to the output buffer.
-/
module

public import proofs.«01_k».proof.Proof.Arrays

@[expose] public section

noncomputable section

namespace Cert.MoE

open Idealize.ShloMosaic Idealize.ShloMosaic.TcCoe
open Cert.KernelIdeal Cert.KernelIdeal.Gen

/-- A choice by the equality of two words. -/
theorem select_eq (a b : BitVec 32) (x y : EReal) : Scalar.select (IntOp.cmpi .eq a b) x y = if a = b then x else y := by
  unfold Scalar.select IntOp.cmpi
  by_cases h : a = b
  · subst h; simp
  · simp only [if_neg h, beq_eq_false_iff_ne.2 h]; rfl

/-! ## The words of the experts -/

/-- The word the program makes of device `d`'s expert `l + e`. -/
theorem word_eq (d : Fin 4) (l e : Fin 4) :
    Scalar.addi (Scalar.addi (Scalar.muli (BitVec.ofNat 32 d.val) 4#32) (BitVec.ofNat 32 l.val)) (BitVec.ofNat 32 e.val)
      = BitVec.ofNat 32 (4 * d.val + l.val + e.val) := by
  revert d l e; decide

/-! ## The gate -/

/-- The gate of the token in row `r`. -/
theorem gate_apply (x : FVec Ideal S2048x512 .f32) (R : FVec Ideal S512x16 .f32) (w : IVec S2048x1 32) (r : Fin 2048) :
    k0_pay5 (F := Ideal) x R w (ix2 r 0)
      = gateOf (score (fun k => x (ix2 r k)) (fun k e => R (ix2 k e))) (w (ix2 r 0)) := by
  pointwise [k0_pay5, k0_pay3, k0_pay4]
  simp only [select_eq]
  rfl

/-- The rounded tokens are the tokens. -/
theorem xb_apply (x : FVec Ideal S2048x512 .f32) (r : Fin 2048) (k : Fin 512) : k0_pay6 (F := Ideal) x (ix2 r k) = x (ix2 r k) := by
  pointwise [k0_pay6, k0_pay3]

theorem ex_apply (w : IVec S2048x1 32) (r : Fin 2048) : k0_pay4 (F := Ideal) w (ix2 r 0) = w (ix2 r 0) := by
  pointwise [k0_pay4]

/-! ## The products -/

/-- Two experts' contributions are equal when the words and the columns are. -/
theorem part_congr (x : Fin 512 → EReal) (g : EReal) (w u u' : BitVec 32) (W W' : Fin 512 → EReal) (hu : u = u')
    (hW : ∀ k, W k = W' k) : (∑ k, if w = u then x k * g * W k else 0) = part x g w u' W' := by
  subst hu
  exact Finset.sum_congr rfl fun k _ => by rw [hW k]

/-- The same, the choice made on the token's side. -/
theorem part_congr' (x a : Fin 512 → EReal) (g : EReal) (w u u' : BitVec 32) (W W' : Fin 512 → EReal) (hu : u = u')
    (ha : ∀ k, a k = if w = u then x k * g else 0) (hW : ∀ k, W k = W' k) : (∑ k, a k * W k) = part x g w u' W' := by
  subst hu
  refine Finset.sum_congr rfl fun k _ => ?_
  rw [hW k, ha k]
  split_ifs
  · rfl
  · exact zero_mul _

variable (w : IVec S2048x1 32) (g : FVec Ideal S2048x1 .f32) (x : FVec Ideal S2048x512 .bf16)

/-- What expert `e` of device `d` adds at row `r`, column `f`, its weights given for the half it lies in. -/
abbrev adds (r : Fin 2048) (f : Fin 1024) (d : Fin 4) (n : ℕ) {E : ℕ} (W : (⟨3, ![E, 512, 1024]⟩ : Shape).Idx → EReal) (e : Fin E) : EReal :=
  part (fun k => x (ix2 r k)) (g (ix2 r 0)) (w (ix2 r 0)) (BitVec.ofNat 32 (4 * d.val + n)) (fun k => W (ix3 e k f))

/-- Two experts of another device. -/
theorem pay13_apply (d : Fin 4) (o : FVec Ideal S2048x1024 .f32) (W : FVec Ideal S2x512x1024 .bf16) (r : Fin 2048) (f : Fin 1024) :
    k0_pay13 (k0_pay12 (BitVec.ofNat 32 d.val) w g x) o W (ix2 r f)
      = o (ix2 r f) + (adds w g x r f d 0 W 0 + adds w g x r f d 1 W 1) := by
  pointwise [k0_pay13, k0_pay12]
  simp only [select_eq]
  congr 1
  congr 1
  · exact part_congr _ _ _ _ _ _ _ (word_eq d 0 0) fun k => by
      congr 2
      · exact Fin.ext (by simp [Nat.div_eq_of_lt k.isLt])
      · exact Fin.ext (by simp [Nat.mod_eq_of_lt k.isLt])
  · exact part_congr _ _ _ _ _ _ _ (word_eq d 0 1) fun k => by
      congr 2
      · exact Fin.ext (by have := k.isLt; dsimp only; omega)
      · exact Fin.ext (by have := k.isLt; dsimp only; omega)

/-- Two experts of another device. -/
theorem pay15_apply (d : Fin 4) (o : FVec Ideal S2048x1024 .f32) (W : FVec Ideal S2x512x1024 .bf16) (r : Fin 2048) (f : Fin 1024) :
    k0_pay15 (k0_pay14 (BitVec.ofNat 32 d.val) w g x) o W (ix2 r f)
      = o (ix2 r f) + (adds w g x r f d 0 W 0 + adds w g x r f d 1 W 1) := by
  pointwise [k0_pay15, k0_pay14]
  simp only [select_eq]
  congr 1
  congr 1
  · exact part_congr _ _ _ _ _ _ _ (word_eq d 0 0) fun k => by
      congr 2
      · exact Fin.ext (by simp [Nat.div_eq_of_lt k.isLt])
      · exact Fin.ext (by simp [Nat.mod_eq_of_lt k.isLt])
  · exact part_congr _ _ _ _ _ _ _ (word_eq d 0 1) fun k => by
      congr 2
      · exact Fin.ext (by have := k.isLt; dsimp only; omega)
      · exact Fin.ext (by have := k.isLt; dsimp only; omega)

/-- Two experts of another device. -/
theorem pay17_apply (d : Fin 4) (o : FVec Ideal S2048x1024 .f32) (W : FVec Ideal S2x512x1024 .bf16) (r : Fin 2048) (f : Fin 1024) :
    k0_pay17 (k0_pay16 (BitVec.ofNat 32 d.val) w g x) o W (ix2 r f)
      = o (ix2 r f) + (adds w g x r f d 2 W 0 + adds w g x r f d 3 W 1) := by
  pointwise [k0_pay17, k0_pay16]
  simp only [select_eq]
  congr 1
  congr 1
  · exact part_congr _ _ _ _ _ _ _ (word_eq d 2 0) fun k => by
      congr 2
      · exact Fin.ext (by simp [Nat.div_eq_of_lt k.isLt])
      · exact Fin.ext (by simp [Nat.mod_eq_of_lt k.isLt])
  · exact part_congr _ _ _ _ _ _ _ (word_eq d 2 1) fun k => by
      congr 2
      · exact Fin.ext (by have := k.isLt; dsimp only; omega)
      · exact Fin.ext (by have := k.isLt; dsimp only; omega)

/-- Two experts of another device. -/
theorem pay19_apply (d : Fin 4) (o : FVec Ideal S2048x1024 .f32) (W : FVec Ideal S2x512x1024 .bf16) (r : Fin 2048) (f : Fin 1024) :
    k0_pay19 (k0_pay18 (BitVec.ofNat 32 d.val) w g x) o W (ix2 r f)
      = o (ix2 r f) + (adds w g x r f d 2 W 0 + adds w g x r f d 3 W 1) := by
  pointwise [k0_pay19, k0_pay18]
  simp only [select_eq]
  congr 1
  congr 1
  · exact part_congr _ _ _ _ _ _ _ (word_eq d 2 0) fun k => by
      congr 2
      · exact Fin.ext (by simp [Nat.div_eq_of_lt k.isLt])
      · exact Fin.ext (by simp [Nat.mod_eq_of_lt k.isLt])
  · exact part_congr _ _ _ _ _ _ _ (word_eq d 2 1) fun k => by
      congr 2
      · exact Fin.ext (by have := k.isLt; dsimp only; omega)
      · exact Fin.ext (by have := k.isLt; dsimp only; omega)

/-- The lower experts of the device across. -/
theorem pay21_apply (d : Fin 4) (o : FVec Ideal S2048x1024 .f32) (W : FVec Ideal S2x512x1024 .bf16) (r : Fin 2048) (f : Fin 1024) :
    k0_pay21 (BitVec.ofNat 32 d.val) w g x (k0_pay20 (BitVec.ofNat 32 d.val) w g x) o W (ix2 r f)
      = o (ix2 r f) + (adds w g x r f d 0 W 0 + adds w g x r f d 1 W 1) := by
  pointwise [k0_pay21, k0_pay20]
  simp only [select_eq]
  congr 1
  congr 1
  · exact part_congr _ _ _ _ _ _ _ (word_eq d 0 0) fun k => by
      congr 2
      · exact Fin.ext (by simp [Nat.div_eq_of_lt k.isLt])
      · exact Fin.ext (by simp [Nat.mod_eq_of_lt k.isLt])
  · exact part_congr _ _ _ _ _ _ _ (word_eq d 0 1) fun k => by
      congr 2
      · exact Fin.ext (by have := k.isLt; dsimp only; omega)
      · exact Fin.ext (by have := k.isLt; dsimp only; omega)

/-- Its upper experts. -/
theorem pay23_apply (d : Fin 4) (o : FVec Ideal S2048x1024 .f32) (W : FVec Ideal S2x512x1024 .bf16) (r : Fin 2048) (f : Fin 1024) :
    k0_pay23 w g x (k0_pay22 (BitVec.ofNat 32 d.val) w g x) (Scalar.muli (BitVec.ofNat 32 d.val) 4#32) o W (ix2 r f)
      = o (ix2 r f) + (adds w g x r f d 2 W 0 + adds w g x r f d 3 W 1) := by
  pointwise [k0_pay23, k0_pay22]
  simp only [select_eq]
  congr 1
  congr 1
  · exact part_congr _ _ _ _ _ _ _ (word_eq d 2 0) fun k => by
      congr 2
      · exact Fin.ext (by simp [Nat.div_eq_of_lt k.isLt])
      · exact Fin.ext (by simp [Nat.mod_eq_of_lt k.isLt])
  · exact part_congr _ _ _ _ _ _ _ (word_eq d 2 1) fun k => by
      congr 2
      · exact Fin.ext (by have := k.isLt; dsimp only; omega)
      · exact Fin.ext (by have := k.isLt; dsimp only; omega)

/-- A sum over four blocks of 512. -/
theorem sum_blocks (h : Fin 2048 → EReal) :
    ∑ i, h i = (∑ k : Fin 512, h ⟨k.val, by omega⟩) + (∑ k : Fin 512, h ⟨512 + k.val, by omega⟩)
      + (∑ k : Fin 512, h ⟨1024 + k.val, by omega⟩) + ∑ k : Fin 512, h ⟨1536 + k.val, by omega⟩ := by
  rw [show ∑ i, h i = ∑ i : Fin (512 + 512 + 512 + 512), h i from rfl, Fin.sum_univ_add, Fin.sum_univ_add, Fin.sum_univ_add]
  rfl

/-- Block 0 of the gated tokens: those of the device's expert 0. -/
theorem pay8_block0 (d : Fin 4) (r : Fin 2048) (k : Fin 512) :
    k0_pay8 (BitVec.ofNat 32 d.val) w g x (k0_pay7 (BitVec.ofNat 32 d.val)) (ix2 r ⟨k.val, by omega⟩)
      = if w (ix2 r 0) = BitVec.ofNat 32 (4 * d.val + 0) then x (ix2 r k) * g (ix2 r 0) else 0 := by
  have hk := k.isLt
  have hw : Scalar.addi (Scalar.addi (Scalar.muli (BitVec.ofNat 32 d.val) 4#32) 0#32) 0#32 = BitVec.ofNat 32 (4 * d.val + 0) :=
    word_eq d 0 0
  pointwise [k0_pay8, k0_pay7]
  simp only [select_eq, hw]
  rw [dif_pos (by omega : k.val < 2048)]
  rfl

/-- Block 1 of the gated tokens: those of the device's expert 1. -/
theorem pay8_block1 (d : Fin 4) (r : Fin 2048) (k : Fin 512) :
    k0_pay8 (BitVec.ofNat 32 d.val) w g x (k0_pay7 (BitVec.ofNat 32 d.val)) (ix2 r ⟨512 + k.val, by omega⟩)
      = if w (ix2 r 0) = BitVec.ofNat 32 (4 * d.val + 1) then x (ix2 r k) * g (ix2 r 0) else 0 := by
  have hk := k.isLt
  have hw : Scalar.addi (Scalar.addi (Scalar.muli (BitVec.ofNat 32 d.val) 4#32) 0#32) 1#32 = BitVec.ofNat 32 (4 * d.val + 1) :=
    word_eq d 0 1
  pointwise [k0_pay8, k0_pay7]
  simp only [select_eq, hw]
  rw [dif_pos (by omega : 512 + k.val < 2048)]

/-- Block 2 of the gated tokens: those of the device's expert 2. -/
theorem pay8_block2 (d : Fin 4) (r : Fin 2048) (k : Fin 512) :
    k0_pay8 (BitVec.ofNat 32 d.val) w g x (k0_pay7 (BitVec.ofNat 32 d.val)) (ix2 r ⟨1024 + k.val, by omega⟩)
      = if w (ix2 r 0) = BitVec.ofNat 32 (4 * d.val + 2) then x (ix2 r k) * g (ix2 r 0) else 0 := by
  have hk := k.isLt
  have hw : Scalar.addi (Scalar.addi (Scalar.muli (BitVec.ofNat 32 d.val) 4#32) 0#32) 2#32 = BitVec.ofNat 32 (4 * d.val + 2) :=
    word_eq d 0 2
  pointwise [k0_pay8, k0_pay7]
  simp only [select_eq, hw]
  rw [dif_pos (by omega : 1024 + k.val < 2048), dif_neg (by omega : ¬ 1024 + k.val < 512), dif_neg (by omega : ¬ 1024 + k.val - 512 < 512), dif_pos (by omega : 1024 + k.val - 512 - 512 < 512)]
  simp only [show 1024 + k.val - 512 - 512 = k.val by omega]

/-- Block 3 of the gated tokens: those of the device's expert 3. -/
theorem pay8_block3 (d : Fin 4) (r : Fin 2048) (k : Fin 512) :
    k0_pay8 (BitVec.ofNat 32 d.val) w g x (k0_pay7 (BitVec.ofNat 32 d.val)) (ix2 r ⟨1536 + k.val, by omega⟩)
      = if w (ix2 r 0) = BitVec.ofNat 32 (4 * d.val + 3) then x (ix2 r k) * g (ix2 r 0) else 0 := by
  have hk := k.isLt
  have hw : Scalar.addi (Scalar.addi (Scalar.muli (BitVec.ofNat 32 d.val) 4#32) 0#32) 3#32 = BitVec.ofNat 32 (4 * d.val + 3) :=
    word_eq d 0 3
  pointwise [k0_pay8, k0_pay7]
  simp only [select_eq, hw]
  rw [dif_pos (by omega : 1536 + k.val < 2048), dif_neg (by omega : ¬ 1536 + k.val < 512), dif_neg (by omega : ¬ 1536 + k.val - 512 < 512), dif_neg (by omega : ¬ 1536 + k.val - 512 - 512 < 512)]
  simp only [show 1536 + k.val - 512 - 512 - 512 = k.val by omega]

/-- After them, the tokens themselves. -/
theorem pay8_tokens (d : Fin 4) (r : Fin 2048) (k : Fin 512) :
    k0_pay8 (BitVec.ofNat 32 d.val) w g x (k0_pay7 (BitVec.ofNat 32 d.val)) (ix2 r ⟨2048 + k.val, by omega⟩) = x (ix2 r k) := by
  have hk := k.isLt
  pointwise [k0_pay8, k0_pay7]

/-- The device's own four experts and the shared one. -/
theorem pay11_apply (d : Fin 4) (W : FVec Ideal S4x512x1024 .bf16) (S : FVec Ideal S512x1024 .f32) (r : Fin 2048) (f : Fin 1024) :
    k0_pay11 (k0_pay8 (BitVec.ofNat 32 d.val) w g x (k0_pay7 (BitVec.ofNat 32 d.val))) (k0_pay9 W) (k0_pay10 S) (ix2 r f)
      = adds w g x r f d 0 W 0 + adds w g x r f d 1 W 1 + adds w g x r f d 2 W 2 + adds w g x r f d 3 W 3
        + ∑ k, x (ix2 r k) * S (ix2 k f) := by
  trans (∑ i : Fin 2048, k0_pay8 (BitVec.ofNat 32 d.val) w g x (k0_pay7 (BitVec.ofNat 32 d.val)) (ix2 r ⟨i.val, by omega⟩)
      * W (ix3 ⟨i.val / 512, by omega⟩ ⟨i.val % 512, by omega⟩ f))
    + ∑ k : Fin 512, k0_pay8 (BitVec.ofNat 32 d.val) w g x (k0_pay7 (BitVec.ofNat 32 d.val)) (ix2 r ⟨2048 + k.val, by omega⟩) * S (ix2 k f)
  · pointwise [k0_pay11, k0_pay9, k0_pay10]
  rw [sum_blocks]
  simp only [pay8_block0, pay8_block1, pay8_block2, pay8_block3, pay8_tokens]
  congr 1
  congr 1
  congr 1
  congr 1
  · refine part_congr' _ _ _ _ _ _ _ _ rfl (fun k => rfl) fun k => ?_
    have := k.isLt
    congr 2
    · exact Fin.ext (by dsimp only; omega)
    · exact Fin.ext (by dsimp only; omega)
  · refine part_congr' _ _ _ _ _ _ _ _ rfl (fun k => rfl) fun k => ?_
    have := k.isLt
    congr 2
    · exact Fin.ext (by dsimp only; omega)
    · exact Fin.ext (by dsimp only; omega)
  · refine part_congr' _ _ _ _ _ _ _ _ rfl (fun k => rfl) fun k => ?_
    have := k.isLt
    congr 2
    · exact Fin.ext (by dsimp only; omega)
    · exact Fin.ext (by dsimp only; omega)
  · refine part_congr' _ _ _ _ _ _ _ _ rfl (fun k => rfl) fun k => ?_
    have := k.isLt
    congr 2
    · exact Fin.ext (by dsimp only; omega)
    · exact Fin.ext (by dsimp only; omega)

end Cert.MoE

end
-- ==== Proof.KernelValue.lean ====
/-
The kernel's result at an index: the sum, over all sixteen experts, of what each adds for the token of the row, and the
shared expert's product.
-/
module

public import proofs.«01_k».proof.Proof.Payloads

@[expose] public section

noncomputable section

namespace Cert.MoE

open Idealize.ShloMosaic Idealize.ShloMosaic.TcCoe
open Cert.KernelIdeal Cert.KernelIdeal.Gen

variable (m : (ℓ : Loc nD τ sig) → Buf (Elt Ideal) ℓ)

/-- Sixteen terms, in the order device `c` adds them: its own four, two of the device before, two of the device after,
    the other two of each, the four of the device across. -/
theorem sum_ring {M : Type} [AddCommMonoid M] (P : ℕ → M) (S : M) (c : Dev nD) :
    P (4 * c.val + 0) + P (4 * c.val + 1) + P (4 * c.val + 2) + P (4 * c.val + 3) + S
      + (P (4 * (prv c).val + 0) + P (4 * (prv c).val + 1))
      + (P (4 * (nxt c).val + 0) + P (4 * (nxt c).val + 1))
      + (P (4 * (prv c).val + 2) + P (4 * (prv c).val + 3))
      + (P (4 * (nxt c).val + 2) + P (4 * (nxt c).val + 3))
      + (P (4 * (prv (prv c)).val + 0) + P (4 * (prv (prv c)).val + 1))
      + (P (4 * (prv (prv c)).val + 2) + P (4 * (prv (prv c)).val + 3))
      = (∑ e : Fin 16, P e.val) + S := by
  have h : ∑ e : Fin 16, P e.val
      = P 0 + P 1 + P 2 + P 3 + P 4 + P 5 + P 6 + P 7 + P 8 + P 9 + P 10 + P 11 + P 12 + P 13 + P 14 + P 15 := by
    rw [Fin.sum_univ_eq_sum_range P 16]
    simp only [Finset.sum_range_succ, Finset.sum_range_zero, zero_add]
  have hc : (c.val = 0 ∧ (prv c).val = 3 ∧ (nxt c).val = 1 ∧ (prv (prv c)).val = 2)
      ∨ (c.val = 1 ∧ (prv c).val = 0 ∧ (nxt c).val = 2 ∧ (prv (prv c)).val = 3)
      ∨ (c.val = 2 ∧ (prv c).val = 1 ∧ (nxt c).val = 3 ∧ (prv (prv c)).val = 0)
      ∨ (c.val = 3 ∧ (prv c).val = 2 ∧ (nxt c).val = 0 ∧ (prv (prv c)).val = 1) := by revert c; decide
  rw [h]
  rcases hc with ⟨h0, h1, h2, h3⟩ | ⟨h0, h1, h2, h3⟩ | ⟨h0, h1, h2, h3⟩ | ⟨h0, h1, h2, h3⟩ <;> rw [h0, h1, h2, h3] <;>
    simp only [Nat.reduceMul, Nat.reduceAdd] <;> abel

/-- WHAT THE KERNEL LEAVES at row `r`, column `f` of device `c`'s result, when `V` holds the sixteen experts' weights, four to a
    device in the devices' order. -/
theorem outAt_apply (V : ℕ → Fin 512 → Fin 1024 → EReal)
    (hV : ∀ (d : Dev nD) (e : Fin 4) (k : Fin 512) (f : Fin 1024),
      m ((d.tc : Thread nD τ).loc main_arg3) (ix3 e k f) = V (4 * d.val + e.val) k f)
    (c : Dev nD) (r : Fin 2048) (f : Fin 1024) (x : Fin 512 → EReal) (R : Fin 512 → Fin 16 → EReal) (w : BitVec 32)
    (S : Fin 512 → EReal) (hx : ∀ k, m ((c.tc : Thread nD τ).loc main_arg0) (ix2 r k) = x k)
    (hR : ∀ k e, m ((c.tc : Thread nD τ).loc main_arg1) (ix2 k e) = R k e)
    (hw : m ((c.tc : Thread nD τ).loc main_arg2) (ix2 r 0) = w)
    (hS : ∀ k, m ((c.tc : Thread nD τ).loc main_arg4) (ix2 k f) = S k) :
    outAt m c (ix2 r f)
      = (∑ e : Fin 16, part x (gateOf (score x R) w) w (BitVec.ofNat 32 e.val) (fun k => V e.val k f)) + ∑ k, x k * S k := by
  unfold outAt o6 o5 o4 o3 o2 o1
  rw [across_eq, left_eq, right_eq, mine_eq, nxt_nxt, pay23_apply, pay21_apply, pay19_apply, pay17_apply, pay15_apply, pay13_apply,
    pay11_apply]
  refine Eq.trans ?_ (sum_ring (fun n => part x (gateOf (score x R) w) w (BitVec.ofNat 32 n) (fun k => V n k f)) _ c)
  have hlo : ∀ (d : Dev nD) (e : Fin 2) (k : Fin 512), wLo m d (ix3 e k f) = V (4 * d.val + e.val) k f := fun d e k =>
    (wLo_apply m d e k f).trans (hV d ⟨e.val, by omega⟩ k f)
  have hhi : ∀ (d : Dev nD) (e : Fin 2) (k : Fin 512), wHi m d (ix3 e k f) = V (4 * d.val + (2 + e.val)) k f := fun d e k =>
    (wHi_apply m d e k f).trans (hV d ⟨2 + e.val, by omega⟩ k f)
  have hown : ∀ (e : Fin 4) (k : Fin 512), wb m c (ix3 e k f) = V (4 * c.val + e.val) k f := fun e k => by
    unfold wb; rw [ew_eq]; exact hV c e k f
  have hxb : ∀ k, xb m c (ix2 r k) = x k := fun k => by unfold xb; rw [xb_apply, xs_eq, hx]
  have hex : ex m c (ix2 r 0) = w := by unfold ex; rw [ex_apply, ids_eq, hw]
  have hg : gate m c (ix2 r 0) = gateOf (score x R) w := by
    unfold gate; rw [gate_apply, xs_eq, rw_eq, ids_eq, hw]; simp only [hx, hR]
  have hs : ∀ k, shw m c (ix2 k f) = S k := fun k => by rw [shw_eq, hS]
  simp only [adds, hxb, hex, hg, hs, hlo, hhi, hown]
  rfl

end Cert.MoE

end
-- ==== Proof.RefValue.lean ====
/-
The reference's result at an index: the shared expert's product, and the gate times the token's product with the weights of
the expert its word names.
-/
module

public import proofs.«01_k».proof.Proof.Gen.ReferenceIdeal
public import proofs.«01_k».proof.Proof.Expert
public import Idealize.ShloMosaic.Lib.Pointwise

@[expose] public section

noncomputable section

namespace Cert.MoE

open Idealize.ShloMosaic
open Cert.ReferenceIdeal Cert.ReferenceIdeal.Gen

/-! ## The two gathers -/

/-- Taking one entry of each row: row `n`'s entry at its own start index, read signed and clamped to the row. -/
theorem gather_row {α : Type} (p : S8192x16.Idx → α) (w : IVec S8192x1x1 32) (n : Fin 8192) :
    Host.gather gather_S8192x16_S8192x1x1_S8192x1_n_1_0_0_1_2_11 p w (ix2 n 0)
      = p (ix2 n ⟨min (w (ix3 n 0 0)).toInt.toNat 15, by omega⟩) := by
  unfold Host.gather
  congr 1
  funext a
  refine Fin.ext ?_
  let D := gather_S8192x16_S8192x1x1_S8192x1_n_1_0_0_1_2_11
  show D.start (ix2 n 0) w a + D.batchCoord (ix2 n 0) a + D.offCoord (ix2 n 0) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    exact (dif_pos (List.mem_singleton.mpr rfl)).trans rfl
  | ⟨1, _⟩ =>
    rw [GatherDims.batchCoord_eq_zero _ _ _ (fun h => by simp [D, gather_S8192x16_S8192x1x1_S8192x1_n_1_0_0_1_2_11] at h),
      GatherDims.offCoord_eq_zero _ _ _ (fun h => ((GatherDims.mem_sKept _ _).mp h).1 (List.mem_singleton.mpr rfl))]
    simp only [Nat.add_zero]
    unfold GatherDims.start
    have hsi : D.siIdx (ix2 n 0) ⟨List.idxOf (1 : Fin 2) D.startIndexMap,
        List.idxOf_lt_length_iff.2 (List.mem_singleton.mpr rfl)⟩ = ix3 n 0 0 := by
      funext b; refine Fin.ext ?_
      match b with
      | ⟨0, _⟩ => rfl
      | ⟨1, _⟩ => rfl
      | ⟨2, _⟩ => rfl
    exact (dif_pos (List.mem_singleton.mpr rfl)).trans (congrArg (fun i => min (w i).toInt.toNat 15) hsi)

/-- Taking one expert's matrix for each row: the matrix at the row's start index, read signed and clamped. -/
theorem gather_matrix {α : Type} (W : S16x512x1024.Idx → α) (w : IVec S8192x1 32) (n : Fin 8192) (k : Fin 512) (f : Fin 1024) :
    Host.gather gather_S16x512x1024_S8192x1_S8192x512x1024_12_0_n_n_0_1_15121024 W w (ix3 n k f)
      = W (ix3 ⟨min (w (ix2 n 0)).toInt.toNat 15, by omega⟩ k f) := by
  unfold Host.gather
  congr 1
  funext a
  refine Fin.ext ?_
  let D := gather_S16x512x1024_S8192x1_S8192x512x1024_12_0_n_n_0_1_15121024
  show D.start (ix3 n k f) w a + D.batchCoord (ix3 n k f) a + D.offCoord (ix3 n k f) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    have hsi : D.siIdx (ix3 n k f) ⟨List.idxOf (0 : Fin 3) D.startIndexMap,
        List.idxOf_lt_length_iff.2 (List.mem_singleton.mpr rfl)⟩ = ix2 n 0 := by
      funext b; refine Fin.ext ?_
      match b with
      | ⟨0, _⟩ => rfl
      | ⟨1, _⟩ => rfl
    exact (dif_pos (List.mem_singleton.mpr rfl)).trans (congrArg (fun i => min (w i).toInt.toNat 15) hsi)
  | ⟨1, _⟩ =>
    have hs : D.start (ix3 n k f) w (1 : Fin 3) = 0 := by
      unfold GatherDims.start
      exact dif_neg (by simp [D, gather_S16x512x1024_S8192x1_S8192x512x1024_12_0_n_n_0_1_15121024])
    exact (congrArg (· + D.offCoord (ix3 n k f) (1 : Fin 3)) hs).trans (Nat.zero_add _)
  | ⟨2, _⟩ =>
    have hs : D.start (ix3 n k f) w (2 : Fin 3) = 0 := by
      unfold GatherDims.start
      exact dif_neg (by simp [D, gather_S16x512x1024_S8192x1_S8192x512x1024_12_0_n_n_0_1_15121024])
    exact (congrArg (· + D.offCoord (ix3 n k f) (2 : Fin 3)) hs).trans (Nat.zero_add _)

/-! ## The reference's term -/

variable (x : FVec Ideal S8192x512 .f32) (R : FVec Ideal S512x16 .f32) (w : IVec S8192x1 32)
  (W : FVec Ideal S16x512x1024 .f32) (S : FVec Ideal S512x1024 .f32)

/-- The scores of every token. -/
def scores : FVec Ideal S8192x16 .f32 := Host.dotGeneral dot_S8192x512_S512x16_S8192x16_1_0_0_1_n_n none x R

/-- The exponentials of the scores less the row's greatest. -/
def expos : FVec Ideal S8192x16 .f32 :=
  Host.exp (subf (scores x R) (broadcastInDim S8192x16 ![0, 1] bcast_S8192x1_S8192x16_0_1
    (broadcastInDim S8192x1 ![0] bcast_S8192_S8192x1_0
      (Host.reduce FloatOps.maximumf (scores x R) (constant S_ .f32 0xFF800000#32) reducesTo_S8192x16_S8192_d1 h_S_))))

/-- Their softmax. -/
def probs : FVec Ideal S8192x16 .f32 :=
  Host.divf (expos x R) (broadcastInDim S8192x16 ![0, 1] bcast_S8192x1_S8192x16_0_1
    (broadcastInDim S8192x1 ![0] bcast_S8192_S8192x1_0
      (Host.reduceAdd (expos x R) (constant S_ .f32 0x00000000#32) reducesTo_S8192x16_S8192_d1 h_S_)))

/-- The gates: the softmax at the token's word where it names an expert, zero elsewhere. -/
def gates : FVec Ideal S8192x1 .f32 :=
  select (andi (cmpi .sge w (broadcastInDim S8192x1 ![] bcast_S_S8192x1 (constantI S_ 32 0#32)))
      (cmpi .slt w (broadcastInDim S8192x1 ![] bcast_S_S8192x1 (constantI S_ 32 16#32))))
    (Host.gather gather_S8192x16_S8192x1x1_S8192x1_n_1_0_0_1_2_11 (probs x R)
      (shapeCast S8192x1x1 (select (cmpi .slt w (broadcastInDim S8192x1 ![] bcast_S_S8192x1 (constantI S_ 32 0#32)))
        (addi w (broadcastInDim S8192x1 ![] bcast_S_S8192x1 (constantI S_ 32 16#32))) w) shapeCasts_S8192x1_S8192x1x1))
    (broadcastInDim S8192x1 ![] bcast_S_S8192x1 (id (constant S_ .f32 0x00000000#32)))

/-- The whole result. -/
def refValue : FVec Ideal S8192x1024 .f32 :=
  addf (Host.dotGeneral dot_S8192x512_S512x1024_S8192x1024_1_0_0_1_n_n none x S)
    (mulf (broadcastInDim S8192x1024 ![0, 1] bcast_S8192x1_S8192x1024_0_1 (gates x R w))
      (Host.dotGeneral dot_S8192x512_S8192x512x1024_S8192x1024_1_1_n_2_0_0 none x
        (Host.gather gather_S16x512x1024_S8192x1_S8192x512x1024_12_0_n_n_0_1_15121024 W
          (broadcastInDim S8192x1 ![0] bcast_S8192_S8192x1_0 (shapeCast S8192 w shapeCasts_S8192x1_S8192)))))

/-! ## Read at an index -/

/-- A token's scores: its products with the router's columns. -/
theorem scores_apply (n : Fin 8192) (e : Fin 16) :
    scores x R (ix2 n e) = score (fun k => x (ix2 n k)) (fun k e => R (ix2 k e)) e := by
  pointwise [scores]
  rfl

/-- The exponential of a score less the token's greatest. -/
theorem expos_apply (n : Fin 8192) (e : Fin 16) :
    expos x R (ix2 n e)
      = Ideal.exp (score (fun k => x (ix2 n k)) (fun k e => R (ix2 k e)) e - top (score (fun k => x (ix2 n k)) (fun k e => R (ix2 k e)))) := by
  pointwise [expos]
  simp only [scores_apply]
  rfl

/-- The softmax of the token's scores. -/
theorem probs_apply (n : Fin 8192) (e : Fin 16) :
    probs x R (ix2 n e) = soft (score (fun k => x (ix2 n k)) (fun k e => R (ix2 k e))) e := by
  pointwise [probs]
  simp only [expos_apply]
  rfl

/-- A gate chosen by a word's range is the gate of that word. -/
theorem gate_range (s : Fin 16 → EReal) (v : BitVec 32) :
    Scalar.select (IntOp.andi (IntOp.cmpi .sge v 0#32) (IntOp.cmpi .slt v 16#32))
      (soft s ⟨min (Scalar.select (IntOp.cmpi .slt v 0#32) (IntOp.addi v 16#32) v).toInt.toNat 15, by omega⟩) 0
      = gateOf s v := by
  by_cases h : ∃ e : Fin 16, v = BitVec.ofNat 32 e.val
  · obtain ⟨e, rfl⟩ := h
    rw [gateOf_word]
    fin_cases e <;> rfl
  · have hn : ∀ e : Fin 16, v ≠ BitVec.ofNat 32 e.val := fun e he => h ⟨e, he⟩
    rw [gateOf_none s v hn]
    have hb : IntOp.andi (IntOp.cmpi .sge v 0#32) (IntOp.cmpi .slt v 16#32) = 0#1 := by
      by_contra hne
      simp only [IntOp.andi, IntOp.cmpi] at hne
      obtain ⟨h0, h16⟩ : (0#32).sle v = true ∧ v.slt 16#32 = true := by
        cases h0 : (0#32).sle v <;> cases h16 : v.slt 16#32 <;> simp [h0, h16] at hne ⊢
      have hv0 : (0 : Int) ≤ v.toInt := by simpa [BitVec.sle_iff_toInt_le] using h0
      have hv16 : v.toInt < 16 := by simpa [BitVec.slt_iff_toInt_lt] using h16
      refine hn ⟨v.toInt.toNat, by omega⟩ (BitVec.eq_of_toInt_eq ?_)
      show v.toInt = (BitVec.ofNat 32 v.toInt.toNat).toInt
      rw [show (BitVec.ofNat 32 v.toInt.toNat).toInt = ((v.toInt.toNat : Nat) : Int).bmod (2 ^ 32) from BitVec.toInt_ofNat' ..,
        Int.toNat_of_nonneg hv0, Int.bmod_eq_of_le (by omega) (by omega)]
    rw [hb]
    rfl

/-- The gate of a token: the softmax at its word, zero where the word names no expert. -/
theorem gates_apply (n : Fin 8192) :
    gates x R w (ix2 n 0) = gateOf (score (fun k => x (ix2 n k)) (fun k e => R (ix2 k e))) (w (ix2 n 0)) := by
  pointwise [gates]
  rw [gather_row, probs_apply]
  pointwise
  have hz : (id (constant (F := Ideal) S_ FTy.f32 0#32) ix0) = (0 : EReal) := by
    show (Ideal.ofBits .f32 0#32 : EReal) = 0
    simp [Ideal.ofBits, Ideal.ieee]
  rw [hz]
  exact gate_range _ _

/-- The reference at a row and a column: the shared product, and the gate times the product with the named expert. -/
theorem refValue_apply (n : Fin 8192) (f : Fin 1024) :
    refValue x R w W S (ix2 n f)
      = (∑ k, (x (ix2 n k) * S (ix2 k f) : EReal)) + gateOf (score (fun k => x (ix2 n k)) (fun k e => R (ix2 k e))) (w (ix2 n 0))
        * ∑ k, (x (ix2 n k) * W (ix3 ⟨min (w (ix2 n 0)).toInt.toNat 15, by omega⟩ k f) : EReal) := by
  pointwise [refValue]
  simp only [gates_apply, gather_matrix]
  pointwise

end Cert.MoE

end
-- ==== Proof.Algebraic.lean ====
/-
The two programs' results: each device's block of the reference's result is the result the kernel leaves there.
-/
module

public import proofs.«01_k».proof.Proof.Finite
public import proofs.«01_k».proof.Proof.Frames
public import proofs.«01_k».proof.Proof.KernelValue
public import proofs.«01_k».proof.Proof.RefValue

@[expose] public section

noncomputable section

namespace Cert.MoE

open Idealize.ShloMosaic Idealize.SL.Sem
open Cert.KernelIdeal (nD τ sig)

/-! ## A device's blocks -/

/-- Row `r` of device `c`'s block, as a row of the whole array. -/
def row (c : Dev nD) (r : Fin 2048) : Fin 8192 := ⟨c.val * 2048 + r.val, by have h : c.val < 4 := c.isLt; omega⟩

/-- A block of rows of a whole array of rows, read at an index. -/
theorem block_rows {α : Type} {N : Nat} (A : (⟨2, ![8192, N]⟩ : Shape).Idx → α)
    (h : Layout.Tiles (⟨2, ![2048, N]⟩ : Shape) ⟨2, ![8192, N]⟩ 0 4) (c : Dev nD) (r : Fin 2048) (f : Fin N) :
    Layout.block ⟨2, ![2048, N]⟩ ⟨2, ![8192, N]⟩ 0 4 c A h (ix2 r f) = A (ix2 (row c r) f) := by
  rw [Layout.block_apply]
  congr 1
  funext a
  refine Fin.ext ?_
  match a with
  | ⟨0, _⟩ => rfl
  | ⟨1, _⟩ => rfl

/-- A block of four experts of the whole stack of sixteen, read at an index. -/
theorem block_experts {α : Type} (A : (⟨3, ![16, 512, 1024]⟩ : Shape).Idx → α)
    (h : Layout.Tiles (⟨3, ![4, 512, 1024]⟩ : Shape) ⟨3, ![16, 512, 1024]⟩ 0 4) (c : Dev nD) (e : Fin 4) (k : Fin 512) (f : Fin 1024) :
    Layout.block ⟨3, ![4, 512, 1024]⟩ ⟨3, ![16, 512, 1024]⟩ 0 4 c A h (ix3 e k f)
      = A (ix3 ⟨c.val * 4 + e.val, by have h : c.val < 4 := c.isLt; omega⟩ k f) := by
  rw [Layout.block_apply]
  congr 1
  funext a
  refine Fin.ext ?_
  match a with
  | ⟨0, _⟩ => rfl
  | ⟨1, _⟩ => rfl
  | ⟨2, _⟩ => rfl

/-! ## The equation -/

/-- The expert a word names is the one the clamped word picks. -/
theorem clamp_word (v : BitVec 32) (e : Fin 16) (h : v = BitVec.ofNat 32 e.val) :
    (⟨min v.toInt.toNat 15, by omega⟩ : Fin 16) = e := by
  subst h
  revert e
  decide

variable (m : (ℓ : Loc nD τ sig) → Buf (Elt Ideal) ℓ)

/-- At each index, a device's result is the whole reference's at the row the device holds. -/
theorem outAt_eq (A0 : FVec Ideal Cert.ReferenceIdeal.S8192x512 .f32) (A1 : FVec Ideal Cert.ReferenceIdeal.S512x16 .f32)
    (A2 : IVec Cert.ReferenceIdeal.S8192x1 32) (A3 : FVec Ideal Cert.ReferenceIdeal.S16x512x1024 .f32)
    (A4 : FVec Ideal Cert.ReferenceIdeal.S512x1024 .f32)
    (hF : ∀ c : Dev nD, (∀ i, IsReal (m ((c.tc : Thread nD τ).loc Cert.KernelIdeal.main_arg0) i))
      ∧ ∀ i, IsReal (m ((c.tc : Thread nD τ).loc Cert.KernelIdeal.main_arg1) i))
    (h0 : ∀ c : Dev nD, m ((c.tc : Thread nD τ).loc Cert.KernelIdeal.main_arg0) = Layout.block ⟨2, ![2048, 512]⟩ ⟨2, ![8192, 512]⟩ 0 4 c A0)
    (h1 : ∀ c : Dev nD, m ((c.tc : Thread nD τ).loc Cert.KernelIdeal.main_arg1) = A1)
    (h2 : ∀ c : Dev nD, m ((c.tc : Thread nD τ).loc Cert.KernelIdeal.main_arg2) = Layout.block ⟨2, ![2048, 1]⟩ ⟨2, ![8192, 1]⟩ 0 4 c A2)
    (h3 : ∀ c : Dev nD, m ((c.tc : Thread nD τ).loc Cert.KernelIdeal.main_arg3)
      = Layout.block ⟨3, ![4, 512, 1024]⟩ ⟨3, ![16, 512, 1024]⟩ 0 4 c A3)
    (h4 : ∀ c : Dev nD, m ((c.tc : Thread nD τ).loc Cert.KernelIdeal.main_arg4) = A4)
    (c : Dev nD) (r : Fin 2048) (f : Fin 1024) :
    outAt m c (ix2 r f) = refValue A0 A1 A2 A3 A4 (ix2 (row c r) f) := by
  have x0 : ∀ k, m ((c.tc : Thread nD τ).loc Cert.KernelIdeal.main_arg0) (ix2 r k) = A0 (ix2 (row c r) k) := fun k =>
    (congrFun (h0 c) (ix2 r k)).trans (block_rows A0 _ c r k)
  have x1 : ∀ k e, m ((c.tc : Thread nD τ).loc Cert.KernelIdeal.main_arg1) (ix2 k e) = A1 (ix2 k e) := fun k e =>
    congrFun (h1 c) (ix2 k e)
  rw [outAt_apply m (fun n k f => if h : n < 16 then A3 (ix3 ⟨n, h⟩ k f) else 0)
      (fun d e k f => ((congrFun (h3 d) (ix3 e k f)).trans (block_experts A3 _ d e k f)).trans (by
        have hd : d.val < 4 := d.isLt
        simp only [dif_pos (show 4 * d.val + e.val < 16 by omega)]
        congr 2
        exact Fin.ext (by show d.val * 4 + e.val = 4 * d.val + e.val; omega)))
      c r f (fun k => A0 (ix2 (row c r) k)) (fun k e => A1 (ix2 k e)) (A2 (ix2 (row c r) 0)) (fun k => A4 (ix2 k f))
      x0 x1 ((congrFun (h2 c) (ix2 r 0)).trans (block_rows A2 _ c r 0)) (fun k => congrFun (h4 c) (ix2 k f)),
    refValue_apply, add_comm]
  refine congrArg _ ?_
  have hs : ∀ e, score (fun k => A0 (ix2 (row c r) k)) (fun k e => A1 (ix2 k e)) e ≠ ⊤
      ∧ score (fun k => A0 (ix2 (row c r) k)) (fun k e => A1 (ix2 k e)) e ≠ ⊥ :=
    score_finite _ _ (fun k => (congrArg IsReal (x0 k)).mp ((hF c).1 (ix2 r k))) (fun k e => (congrArg IsReal (x1 k e)).mp ((hF c).2 (ix2 k e)))
  refine Eq.trans ?_ (sum_parts (fun k => A0 (ix2 (row c r) k)) _ hs (A2 (ix2 (row c r) 0)) (fun e k => A3 (ix3 e k f))
    ⟨min (A2 (ix2 (row c r) 0)).toInt.toNat 15, by omega⟩ (fun e => clamp_word _ e))
  refine Finset.sum_congr rfl fun e _ => ?_
  simp only [dif_pos e.isLt]

/-! ## The claim -/

/-- Both programs run; the reference's result, cut into the devices' blocks, is what the kernel leaves on the devices. -/
theorem algebraic : Cert.algebraic_KernelIdeal_ReferenceIdeal_pre_finite_KernelIdeal := fun m g m' g' hp ha => by
  refine ⟨_, ?_, (θ_run Cert.ReferenceIdeal.defs _ _).mono (fun _ h => h 0) (Cert.ReferenceIdeal.Value.run (F := Ideal) m' g')⟩
  refine (θ_run Cert.KernelIdeal.defs _ _).mono (fun r h c => ⟨(h.1 c).1.trans ?_, (h.1 c).2⟩) (run_main (F := Ideal) m g)
  funext i
  obtain ⟨p, q, rfl⟩ : ∃ (p : Fin 2048) (q : Fin 1024), i = ix2 p q := ⟨i 0, i 1, eq_ix2 i⟩
  refine (outAt_eq m _ _ _ _ _ (fun c => finite_of_fn _ _ _ _ _ (hp c)) (fun c => (ha c).1) (fun c => (ha c).2.1)
    (fun c => (ha c).2.2.1) (fun c => (ha c).2.2.2.1) (fun c => (ha c).2.2.2.2) c p q).trans ?_
  exact (block_rows _ _ c p q).symm

end Cert.MoE

end
-- ==== Proof.lean ====
/-
The claim assembled: the programs' stated shape facts, the frames of the three programs, the kernel over words read over the
extended reals, and the equation between the kernel's result and the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claims, each from the module that proves it; those of a frame under the precondition are the frames. -/
theorem claim : Cert.Claim := ⟨Cert.Kernel.Gen.facts, Cert.KernelIdeal.Gen.facts, Cert.ReferenceIdeal.Gen.facts,
  Cert.MoE.facts_pre_kernel, Cert.MoE.facts_pre_reference,
  Cert.MoE.frame_kernel, Cert.MoE.frame_kernelIdeal, fun m g _ => Cert.MoE.frame_kernelIdeal m g trivial,
  Cert.MoE.frame_reference, fun m g _ => Cert.MoE.frame_reference m g trivial, trivial, Cert.MoE.algebraic⟩

end Cert.Proof

end
